-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelKvq (m : (ℓ : Loc Cert.KernelKvq.nD Cert.KernelKvq.τ Cert.KernelKvq.sig) → Buf (Elt Bits) ℓ) : Prop :=
  True

def Pre_KernelKvqIdeal (m : (ℓ : Loc Cert.KernelKvqIdeal.nD Cert.KernelKvqIdeal.τ Cert.KernelKvqIdeal.sig) → Buf (Elt Ideal) ℓ) : Prop :=
  True

def Pre_ReferenceKvqIdeal (m : (ℓ : Loc Cert.ReferenceKvqIdeal.nD Cert.ReferenceKvqIdeal.τ Cert.ReferenceKvqIdeal.sig) → Buf (Elt Ideal) ℓ) : Prop :=
  True

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_finite_gain [hPre_finite_gain : Cert.Pre_finite_gain.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_finite_gain.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3)) (m ((c.tc : Thread Cert.KernelPoolIdeal.nD Cert.KernelPoolIdeal.τ).loc Cert.KernelPoolIdeal.main_arg4)) (m ((c.tc : Thread Cert.KernelPoolIdeal.nD Cert.KernelPoolIdeal.τ).loc Cert.KernelPoolIdeal.main_arg5)) (m ((c.tc : Thread Cert.KernelPoolIdeal.nD Cert.KernelPoolIdeal.τ).loc Cert.KernelPoolIdeal.main_arg6)) (m ((c.tc : Thread Cert.KernelPoolIdeal.nD Cert.KernelPoolIdeal.τ).loc Cert.KernelPoolIdeal.main_arg7))) = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_finite_gain [hPre_finite_gain : Cert.Pre_finite_gain.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_finite_gain.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3)) (m ((c.tc : Thread Cert.ReferencePoolIdeal.nD Cert.ReferencePoolIdeal.τ).loc Cert.ReferencePoolIdeal.main_arg4)) (m ((c.tc : Thread Cert.ReferencePoolIdeal.nD Cert.ReferencePoolIdeal.τ).loc Cert.ReferencePoolIdeal.main_arg5)) (m ((c.tc : Thread Cert.ReferencePoolIdeal.nD Cert.ReferencePoolIdeal.τ).loc Cert.ReferencePoolIdeal.main_arg6)) (m ((c.tc : Thread Cert.ReferencePoolIdeal.nD Cert.ReferencePoolIdeal.τ).loc Cert.ReferencePoolIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelKvq [hKernelKvq : Cert.KernelKvq.Facts] : Prop :=
  ∀ (m : (ℓ : Loc Cert.KernelKvq.nD Cert.KernelKvq.τ Cert.KernelKvq.sig) → Buf (Elt Bits) ℓ) (g : Dev Cert.KernelKvq.nD → PrngReg), Pre_KernelKvq m →
    θ_run (Cert.KernelKvq.defs (F := Bits)) (onTc (τ := Cert.KernelKvq.τ) (Cert.KernelKvq.main (F := Bits))) ⟨m, fun _ => 0, g⟩ (fun r => (∀ c : Dev Cert.KernelKvq.nD,
      r.2.mem ((c.tc : Thread Cert.KernelKvq.nD Cert.KernelKvq.τ).loc Cert.KernelKvq.main_arg0) = m ((c.tc : Thread Cert.KernelKvq.nD Cert.KernelKvq.τ).loc Cert.KernelKvq.main_arg0)
      ∧ r.2.mem ((c.tc : Thread Cert.KernelKvq.nD Cert.KernelKvq.τ).loc Cert.KernelKvq.main_arg1) = m ((c.tc : Thread Cert.KernelKvq.nD Cert.KernelKvq.τ).loc Cert.KernelKvq.main_arg1)
      ∧ r.2.mem ((c.tc : Thread Cert.KernelKvq.nD Cert.KernelKvq.τ).loc Cert.KernelKvq.main_arg2) = m ((c.tc : Thread Cert.KernelKvq.nD Cert.KernelKvq.τ).loc Cert.KernelKvq.main_arg2)
      ∧ r.2.mem ((c.tc : Thread Cert.KernelKvq.nD Cert.KernelKvq.τ).loc Cert.KernelKvq.main_arg3) = m ((c.tc : Thread Cert.KernelKvq.nD Cert.KernelKvq.τ).loc Cert.KernelKvq.main_arg3)
      ∧ r.2.mem ((c.tc : Thread Cert.KernelKvq.nD Cert.KernelKvq.τ).loc Cert.KernelKvq.main_arg4) = m ((c.tc : Thread Cert.KernelKvq.nD Cert.KernelKvq.τ).loc Cert.KernelKvq.main_arg4)
      ∧ r.2.mem ((c.tc : Thread Cert.KernelKvq.nD Cert.KernelKvq.τ).loc Cert.KernelKvq.main_arg5) = m ((c.tc : Thread Cert.KernelKvq.nD Cert.KernelKvq.τ).loc Cert.KernelKvq.main_arg5)
      ∧ r.2.mem ((c.tc : Thread Cert.KernelKvq.nD Cert.KernelKvq.τ).loc Cert.KernelKvq.main_arg6) = m ((c.tc : Thread Cert.KernelKvq.nD Cert.KernelKvq.τ).loc Cert.KernelKvq.main_arg6)
      ∧ r.2.mem ((c.tc : Thread Cert.KernelKvq.nD Cert.KernelKvq.τ).loc Cert.KernelKvq.main_arg7) = m ((c.tc : Thread Cert.KernelKvq.nD Cert.KernelKvq.τ).loc Cert.KernelKvq.main_arg7)
      ∧ r.2.mem ((c.tc : Thread Cert.KernelKvq.nD Cert.KernelKvq.τ).loc Cert.KernelKvq.main_arg8) = m ((c.tc : Thread Cert.KernelKvq.nD Cert.KernelKvq.τ).loc Cert.KernelKvq.main_arg8)
      ∧ r.2.mem ((c.tc : Thread Cert.KernelKvq.nD Cert.KernelKvq.τ).loc Cert.KernelKvq.main_arg9) = m ((c.tc : Thread Cert.KernelKvq.nD Cert.KernelKvq.τ).loc Cert.KernelKvq.main_arg9))
      ∧ r.2.sem = fun _ => 0)

def quiescent_KernelKvqIdeal [hKernelKvqIdeal : Cert.KernelKvqIdeal.Facts] : Prop :=
  ∀ (m : (ℓ : Loc Cert.KernelKvqIdeal.nD Cert.KernelKvqIdeal.τ Cert.KernelKvqIdeal.sig) → Buf (Elt Ideal) ℓ) (g : Dev Cert.KernelKvqIdeal.nD → PrngReg), Pre_KernelKvqIdeal m →
    θ_run (Cert.KernelKvqIdeal.defs (F := Ideal)) (onTc (τ := Cert.KernelKvqIdeal.τ) (Cert.KernelKvqIdeal.main (F := Ideal))) ⟨m, fun _ => 0, g⟩ (fun r => (∀ c : Dev Cert.KernelKvqIdeal.nD,
      r.2.mem ((c.tc : Thread Cert.KernelKvqIdeal.nD Cert.KernelKvqIdeal.τ).loc Cert.KernelKvqIdeal.main_arg0) = m ((c.tc : Thread Cert.KernelKvqIdeal.nD Cert.KernelKvqIdeal.τ).loc Cert.KernelKvqIdeal.main_arg0)
      ∧ r.2.mem ((c.tc : Thread Cert.KernelKvqIdeal.nD Cert.KernelKvqIdeal.τ).loc Cert.KernelKvqIdeal.main_arg1) = m ((c.tc : Thread Cert.KernelKvqIdeal.nD Cert.KernelKvqIdeal.τ).loc Cert.KernelKvqIdeal.main_arg1)
      ∧ r.2.mem ((c.tc : Thread Cert.KernelKvqIdeal.nD Cert.KernelKvqIdeal.τ).loc Cert.KernelKvqIdeal.main_arg2) = m ((c.tc : Thread Cert.KernelKvqIdeal.nD Cert.KernelKvqIdeal.τ).loc Cert.KernelKvqIdeal.main_arg2)
      ∧ r.2.mem ((c.tc : Thread Cert.KernelKvqIdeal.nD Cert.KernelKvqIdeal.τ).loc Cert.KernelKvqIdeal.main_arg3) = m ((c.tc : Thread Cert.KernelKvqIdeal.nD Cert.KernelKvqIdeal.τ).loc Cert.KernelKvqIdeal.main_arg3)
      ∧ r.2.mem ((c.tc : Thread Cert.KernelKvqIdeal.nD Cert.KernelKvqIdeal.τ).loc Cert.KernelKvqIdeal.main_arg4) = m ((c.tc : Thread Cert.KernelKvqIdeal.nD Cert.KernelKvqIdeal.τ).loc Cert.KernelKvqIdeal.main_arg4)
      ∧ r.2.mem ((c.tc : Thread Cert.KernelKvqIdeal.nD Cert.KernelKvqIdeal.τ).loc Cert.KernelKvqIdeal.main_arg5) = m ((c.tc : Thread Cert.KernelKvqIdeal.nD Cert.KernelKvqIdeal.τ).loc Cert.KernelKvqIdeal.main_arg5)
      ∧ r.2.mem ((c.tc : Thread Cert.KernelKvqIdeal.nD Cert.KernelKvqIdeal.τ).loc Cert.KernelKvqIdeal.main_arg6) = m ((c.tc : Thread Cert.KernelKvqIdeal.nD Cert.KernelKvqIdeal.τ).loc Cert.KernelKvqIdeal.main_arg6)
      ∧ r.2.mem ((c.tc : Thread Cert.KernelKvqIdeal.nD Cert.KernelKvqIdeal.τ).loc Cert.KernelKvqIdeal.main_arg7) = m ((c.tc : Thread Cert.KernelKvqIdeal.nD Cert.KernelKvqIdeal.τ).loc Cert.KernelKvqIdeal.main_arg7)
      ∧ r.2.mem ((c.tc : Thread Cert.KernelKvqIdeal.nD Cert.KernelKvqIdeal.τ).loc Cert.KernelKvqIdeal.main_arg8) = m ((c.tc : Thread Cert.KernelKvqIdeal.nD Cert.KernelKvqIdeal.τ).loc Cert.KernelKvqIdeal.main_arg8)
      ∧ r.2.mem ((c.tc : Thread Cert.KernelKvqIdeal.nD Cert.KernelKvqIdeal.τ).loc Cert.KernelKvqIdeal.main_arg9) = m ((c.tc : Thread Cert.KernelKvqIdeal.nD Cert.KernelKvqIdeal.τ).loc Cert.KernelKvqIdeal.main_arg9))
      ∧ r.2.sem = fun _ => 0)

def quiescent_ReferenceKvqIdeal [hReferenceKvqIdeal : Cert.ReferenceKvqIdeal.Facts] : Prop :=
  ∀ (m : (ℓ : Loc Cert.ReferenceKvqIdeal.nD Cert.ReferenceKvqIdeal.τ Cert.ReferenceKvqIdeal.sig) → Buf (Elt Ideal) ℓ) (g : Dev Cert.ReferenceKvqIdeal.nD → PrngReg), Pre_ReferenceKvqIdeal m →
    θ_run (Cert.ReferenceKvqIdeal.defs (F := Ideal)) (onTc (τ := Cert.ReferenceKvqIdeal.τ) (Cert.ReferenceKvqIdeal.main (F := Ideal))) ⟨m, fun _ => 0, g⟩ (fun r => (∀ c : Dev Cert.ReferenceKvqIdeal.nD,
      r.2.mem ((c.tc : Thread Cert.ReferenceKvqIdeal.nD Cert.ReferenceKvqIdeal.τ).loc Cert.ReferenceKvqIdeal.main_arg0) = m ((c.tc : Thread Cert.ReferenceKvqIdeal.nD Cert.ReferenceKvqIdeal.τ).loc Cert.ReferenceKvqIdeal.main_arg0)
      ∧ r.2.mem ((c.tc : Thread Cert.ReferenceKvqIdeal.nD Cert.ReferenceKvqIdeal.τ).loc Cert.ReferenceKvqIdeal.main_arg1) = m ((c.tc : Thread Cert.ReferenceKvqIdeal.nD Cert.ReferenceKvqIdeal.τ).loc Cert.ReferenceKvqIdeal.main_arg1)
      ∧ r.2.mem ((c.tc : Thread Cert.ReferenceKvqIdeal.nD Cert.ReferenceKvqIdeal.τ).loc Cert.ReferenceKvqIdeal.main_arg2) = m ((c.tc : Thread Cert.ReferenceKvqIdeal.nD Cert.ReferenceKvqIdeal.τ).loc Cert.ReferenceKvqIdeal.main_arg2)
      ∧ r.2.mem ((c.tc : Thread Cert.ReferenceKvqIdeal.nD Cert.ReferenceKvqIdeal.τ).loc Cert.ReferenceKvqIdeal.main_arg3) = m ((c.tc : Thread Cert.ReferenceKvqIdeal.nD Cert.ReferenceKvqIdeal.τ).loc Cert.ReferenceKvqIdeal.main_arg3)
      ∧ r.2.mem ((c.tc : Thread Cert.ReferenceKvqIdeal.nD Cert.ReferenceKvqIdeal.τ).loc Cert.ReferenceKvqIdeal.main_arg4) = m ((c.tc : Thread Cert.ReferenceKvqIdeal.nD Cert.ReferenceKvqIdeal.τ).loc Cert.ReferenceKvqIdeal.main_arg4)
      ∧ r.2.mem ((c.tc : Thread Cert.ReferenceKvqIdeal.nD Cert.ReferenceKvqIdeal.τ).loc Cert.ReferenceKvqIdeal.main_arg5) = m ((c.tc : Thread Cert.ReferenceKvqIdeal.nD Cert.ReferenceKvqIdeal.τ).loc Cert.ReferenceKvqIdeal.main_arg5)
      ∧ r.2.mem ((c.tc : Thread Cert.ReferenceKvqIdeal.nD Cert.ReferenceKvqIdeal.τ).loc Cert.ReferenceKvqIdeal.main_arg6) = m ((c.tc : Thread Cert.ReferenceKvqIdeal.nD Cert.ReferenceKvqIdeal.τ).loc Cert.ReferenceKvqIdeal.main_arg6)
      ∧ r.2.mem ((c.tc : Thread Cert.ReferenceKvqIdeal.nD Cert.ReferenceKvqIdeal.τ).loc Cert.ReferenceKvqIdeal.main_arg7) = m ((c.tc : Thread Cert.ReferenceKvqIdeal.nD Cert.ReferenceKvqIdeal.τ).loc Cert.ReferenceKvqIdeal.main_arg7)
      ∧ r.2.mem ((c.tc : Thread Cert.ReferenceKvqIdeal.nD Cert.ReferenceKvqIdeal.τ).loc Cert.ReferenceKvqIdeal.main_arg8) = m ((c.tc : Thread Cert.ReferenceKvqIdeal.nD Cert.ReferenceKvqIdeal.τ).loc Cert.ReferenceKvqIdeal.main_arg8)
      ∧ r.2.mem ((c.tc : Thread Cert.ReferenceKvqIdeal.nD Cert.ReferenceKvqIdeal.τ).loc Cert.ReferenceKvqIdeal.main_arg9) = m ((c.tc : Thread Cert.ReferenceKvqIdeal.nD Cert.ReferenceKvqIdeal.τ).loc Cert.ReferenceKvqIdeal.main_arg9))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3)
      ∧ r.2.mem ((c.tc : Thread Cert.KernelPool.nD Cert.KernelPool.τ).loc Cert.KernelPool.main_arg4) = m ((c.tc : Thread Cert.KernelPool.nD Cert.KernelPool.τ).loc Cert.KernelPool.main_arg4)
      ∧ r.2.mem ((c.tc : Thread Cert.KernelPool.nD Cert.KernelPool.τ).loc Cert.KernelPool.main_arg5) = m ((c.tc : Thread Cert.KernelPool.nD Cert.KernelPool.τ).loc Cert.KernelPool.main_arg5)
      ∧ r.2.mem ((c.tc : Thread Cert.KernelPool.nD Cert.KernelPool.τ).loc Cert.KernelPool.main_arg6) = m ((c.tc : Thread Cert.KernelPool.nD Cert.KernelPool.τ).loc Cert.KernelPool.main_arg6)
      ∧ r.2.mem ((c.tc : Thread Cert.KernelPool.nD Cert.KernelPool.τ).loc Cert.KernelPool.main_arg7) = m ((c.tc : Thread Cert.KernelPool.nD Cert.KernelPool.τ).loc Cert.KernelPool.main_arg7))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3)
      ∧ r.2.mem ((c.tc : Thread Cert.KernelPoolIdeal.nD Cert.KernelPoolIdeal.τ).loc Cert.KernelPoolIdeal.main_arg4) = m ((c.tc : Thread Cert.KernelPoolIdeal.nD Cert.KernelPoolIdeal.τ).loc Cert.KernelPoolIdeal.main_arg4)
      ∧ r.2.mem ((c.tc : Thread Cert.KernelPoolIdeal.nD Cert.KernelPoolIdeal.τ).loc Cert.KernelPoolIdeal.main_arg5) = m ((c.tc : Thread Cert.KernelPoolIdeal.nD Cert.KernelPoolIdeal.τ).loc Cert.KernelPoolIdeal.main_arg5)
      ∧ r.2.mem ((c.tc : Thread Cert.KernelPoolIdeal.nD Cert.KernelPoolIdeal.τ).loc Cert.KernelPoolIdeal.main_arg6) = m ((c.tc : Thread Cert.KernelPoolIdeal.nD Cert.KernelPoolIdeal.τ).loc Cert.KernelPoolIdeal.main_arg6)
      ∧ r.2.mem ((c.tc : Thread Cert.KernelPoolIdeal.nD Cert.KernelPoolIdeal.τ).loc Cert.KernelPoolIdeal.main_arg7) = m ((c.tc : Thread Cert.KernelPoolIdeal.nD Cert.KernelPoolIdeal.τ).loc Cert.KernelPoolIdeal.main_arg7))
      ∧ r.2.sem = fun _ => 0)

def quiescent_KernelPoolIdeal_pre_finite_gain [hKernelPoolIdeal : Cert.KernelPoolIdeal.Facts] [hPre_finite_gain : Cert.Pre_finite_gain.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_finite_gain m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3)
      ∧ r.2.mem ((c.tc : Thread Cert.KernelPoolIdeal.nD Cert.KernelPoolIdeal.τ).loc Cert.KernelPoolIdeal.main_arg4) = m ((c.tc : Thread Cert.KernelPoolIdeal.nD Cert.KernelPoolIdeal.τ).loc Cert.KernelPoolIdeal.main_arg4)
      ∧ r.2.mem ((c.tc : Thread Cert.KernelPoolIdeal.nD Cert.KernelPoolIdeal.τ).loc Cert.KernelPoolIdeal.main_arg5) = m ((c.tc : Thread Cert.KernelPoolIdeal.nD Cert.KernelPoolIdeal.τ).loc Cert.KernelPoolIdeal.main_arg5)
      ∧ r.2.mem ((c.tc : Thread Cert.KernelPoolIdeal.nD Cert.KernelPoolIdeal.τ).loc Cert.KernelPoolIdeal.main_arg6) = m ((c.tc : Thread Cert.KernelPoolIdeal.nD Cert.KernelPoolIdeal.τ).loc Cert.KernelPoolIdeal.main_arg6)
      ∧ r.2.mem ((c.tc : Thread Cert.KernelPoolIdeal.nD Cert.KernelPoolIdeal.τ).loc Cert.KernelPoolIdeal.main_arg7) = m ((c.tc : Thread Cert.KernelPoolIdeal.nD Cert.KernelPoolIdeal.τ).loc Cert.KernelPoolIdeal.main_arg7))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3)
      ∧ r.2.mem ((c.tc : Thread Cert.ReferencePoolIdeal.nD Cert.ReferencePoolIdeal.τ).loc Cert.ReferencePoolIdeal.main_arg4) = m ((c.tc : Thread Cert.ReferencePoolIdeal.nD Cert.ReferencePoolIdeal.τ).loc Cert.ReferencePoolIdeal.main_arg4)
      ∧ r.2.mem ((c.tc : Thread Cert.ReferencePoolIdeal.nD Cert.ReferencePoolIdeal.τ).loc Cert.ReferencePoolIdeal.main_arg5) = m ((c.tc : Thread Cert.ReferencePoolIdeal.nD Cert.ReferencePoolIdeal.τ).loc Cert.ReferencePoolIdeal.main_arg5)
      ∧ r.2.mem ((c.tc : Thread Cert.ReferencePoolIdeal.nD Cert.ReferencePoolIdeal.τ).loc Cert.ReferencePoolIdeal.main_arg6) = m ((c.tc : Thread Cert.ReferencePoolIdeal.nD Cert.ReferencePoolIdeal.τ).loc Cert.ReferencePoolIdeal.main_arg6)
      ∧ r.2.mem ((c.tc : Thread Cert.ReferencePoolIdeal.nD Cert.ReferencePoolIdeal.τ).loc Cert.ReferencePoolIdeal.main_arg7) = m ((c.tc : Thread Cert.ReferencePoolIdeal.nD Cert.ReferencePoolIdeal.τ).loc Cert.ReferencePoolIdeal.main_arg7))
      ∧ r.2.sem = fun _ => 0)

def quiescent_ReferencePoolIdeal_pre_finite_gain [hReferencePoolIdeal : Cert.ReferencePoolIdeal.Facts] [hPre_finite_gain : Cert.Pre_finite_gain.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_finite_gain m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3)
      ∧ r.2.mem ((c.tc : Thread Cert.ReferencePoolIdeal.nD Cert.ReferencePoolIdeal.τ).loc Cert.ReferencePoolIdeal.main_arg4) = m ((c.tc : Thread Cert.ReferencePoolIdeal.nD Cert.ReferencePoolIdeal.τ).loc Cert.ReferencePoolIdeal.main_arg4)
      ∧ r.2.mem ((c.tc : Thread Cert.ReferencePoolIdeal.nD Cert.ReferencePoolIdeal.τ).loc Cert.ReferencePoolIdeal.main_arg5) = m ((c.tc : Thread Cert.ReferencePoolIdeal.nD Cert.ReferencePoolIdeal.τ).loc Cert.ReferencePoolIdeal.main_arg5)
      ∧ r.2.mem ((c.tc : Thread Cert.ReferencePoolIdeal.nD Cert.ReferencePoolIdeal.τ).loc Cert.ReferencePoolIdeal.main_arg6) = m ((c.tc : Thread Cert.ReferencePoolIdeal.nD Cert.ReferencePoolIdeal.τ).loc Cert.ReferencePoolIdeal.main_arg6)
      ∧ r.2.mem ((c.tc : Thread Cert.ReferencePoolIdeal.nD Cert.ReferencePoolIdeal.τ).loc Cert.ReferencePoolIdeal.main_arg7) = m ((c.tc : Thread Cert.ReferencePoolIdeal.nD Cert.ReferencePoolIdeal.τ).loc Cert.ReferencePoolIdeal.main_arg7))
      ∧ r.2.sem = fun _ => 0)

def preserves_Kernel_KernelIdeal : Prop :=
  IdealRules.named_const.Statement Cert.KernelIdeal.κ "mask" .f32 0xF149F2CA#32 ⊥

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v8)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v8) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v20) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelKvq_KernelKvqIdeal : Prop :=
  IdealRules.named_const.Statement Cert.KernelKvqIdeal.κ "scale" .f32 0x3E38AA3B#32 (((1 / 8) * (Real.log 2)⁻¹ : ℝ) : EReal)

def algebraic_KernelKvqIdeal_ReferenceKvqIdeal [hKernelKvqIdeal : Cert.KernelKvqIdeal.Facts] [hReferenceKvqIdeal : Cert.ReferenceKvqIdeal.Facts] : Prop :=
  ∀ (m : (ℓ : Loc Cert.KernelKvqIdeal.nD Cert.KernelKvqIdeal.τ Cert.KernelKvqIdeal.sig) → Buf (Elt Ideal) ℓ) (g : Dev Cert.KernelKvqIdeal.nD → PrngReg)
    (m' : (ℓ : Loc Cert.ReferenceKvqIdeal.nD Cert.ReferenceKvqIdeal.τ Cert.ReferenceKvqIdeal.sig) → Buf (Elt Ideal) ℓ) (g' : Dev Cert.ReferenceKvqIdeal.nD → PrngReg), Pre_KernelKvqIdeal m →
    (∀ c : Dev Cert.KernelKvqIdeal.nD,
      m' ((c.tc : Thread Cert.ReferenceKvqIdeal.nD Cert.ReferenceKvqIdeal.τ).loc Cert.ReferenceKvqIdeal.main_arg0) = m ((c.tc : Thread Cert.KernelKvqIdeal.nD Cert.KernelKvqIdeal.τ).loc Cert.KernelKvqIdeal.main_arg0)
      ∧ m' ((c.tc : Thread Cert.ReferenceKvqIdeal.nD Cert.ReferenceKvqIdeal.τ).loc Cert.ReferenceKvqIdeal.main_arg1) = m ((c.tc : Thread Cert.KernelKvqIdeal.nD Cert.KernelKvqIdeal.τ).loc Cert.KernelKvqIdeal.main_arg1)
      ∧ m' ((c.tc : Thread Cert.ReferenceKvqIdeal.nD Cert.ReferenceKvqIdeal.τ).loc Cert.ReferenceKvqIdeal.main_arg2) = m ((c.tc : Thread Cert.KernelKvqIdeal.nD Cert.KernelKvqIdeal.τ).loc Cert.KernelKvqIdeal.main_arg2)
      ∧ m' ((c.tc : Thread Cert.ReferenceKvqIdeal.nD Cert.ReferenceKvqIdeal.τ).loc Cert.ReferenceKvqIdeal.main_arg3) = m ((c.tc : Thread Cert.KernelKvqIdeal.nD Cert.KernelKvqIdeal.τ).loc Cert.KernelKvqIdeal.main_arg3)
      ∧ m' ((c.tc : Thread Cert.ReferenceKvqIdeal.nD Cert.ReferenceKvqIdeal.τ).loc Cert.ReferenceKvqIdeal.main_arg4) = m ((c.tc : Thread Cert.KernelKvqIdeal.nD Cert.KernelKvqIdeal.τ).loc Cert.KernelKvqIdeal.main_arg4)
      ∧ m' ((c.tc : Thread Cert.ReferenceKvqIdeal.nD Cert.ReferenceKvqIdeal.τ).loc Cert.ReferenceKvqIdeal.main_arg5) = m ((c.tc : Thread Cert.KernelKvqIdeal.nD Cert.KernelKvqIdeal.τ).loc Cert.KernelKvqIdeal.main_arg5)
      ∧ m' ((c.tc : Thread Cert.ReferenceKvqIdeal.nD Cert.ReferenceKvqIdeal.τ).loc Cert.ReferenceKvqIdeal.main_arg6) = m ((c.tc : Thread Cert.KernelKvqIdeal.nD Cert.KernelKvqIdeal.τ).loc Cert.KernelKvqIdeal.main_arg6)
      ∧ m' ((c.tc : Thread Cert.ReferenceKvqIdeal.nD Cert.ReferenceKvqIdeal.τ).loc Cert.ReferenceKvqIdeal.main_arg7) = m ((c.tc : Thread Cert.KernelKvqIdeal.nD Cert.KernelKvqIdeal.τ).loc Cert.KernelKvqIdeal.main_arg7)
      ∧ m' ((c.tc : Thread Cert.ReferenceKvqIdeal.nD Cert.ReferenceKvqIdeal.τ).loc Cert.ReferenceKvqIdeal.main_arg8) = m ((c.tc : Thread Cert.KernelKvqIdeal.nD Cert.KernelKvqIdeal.τ).loc Cert.KernelKvqIdeal.main_arg8)
      ∧ m' ((c.tc : Thread Cert.ReferenceKvqIdeal.nD Cert.ReferenceKvqIdeal.τ).loc Cert.ReferenceKvqIdeal.main_arg9) = m ((c.tc : Thread Cert.KernelKvqIdeal.nD Cert.KernelKvqIdeal.τ).loc Cert.KernelKvqIdeal.main_arg9)) →
    ∃ (v0 : (c : Dev Cert.KernelKvqIdeal.nD) → Buf (Elt Ideal) ((c.tc : Thread Cert.KernelKvqIdeal.nD Cert.KernelKvqIdeal.τ).loc Cert.KernelKvqIdeal.main_v31_0)) (v1 : (c : Dev Cert.KernelKvqIdeal.nD) → Buf (Elt Ideal) ((c.tc : Thread Cert.KernelKvqIdeal.nD Cert.KernelKvqIdeal.τ).loc Cert.KernelKvqIdeal.main_v31_1)) (v2 : (c : Dev Cert.KernelKvqIdeal.nD) → Buf (Elt Ideal) ((c.tc : Thread Cert.KernelKvqIdeal.nD Cert.KernelKvqIdeal.τ).loc Cert.KernelKvqIdeal.main_v31_2)) (v3 : (c : Dev Cert.KernelKvqIdeal.nD) → Buf (Elt Ideal) ((c.tc : Thread Cert.KernelKvqIdeal.nD Cert.KernelKvqIdeal.τ).loc Cert.KernelKvqIdeal.main_v31_3)) (v4 : (c : Dev Cert.KernelKvqIdeal.nD) → Buf (Elt Ideal) ((c.tc : Thread Cert.KernelKvqIdeal.nD Cert.KernelKvqIdeal.τ).loc Cert.KernelKvqIdeal.main_v31_4)) (v5 : (c : Dev Cert.KernelKvqIdeal.nD) → Buf (Elt Ideal) ((c.tc : Thread Cert.KernelKvqIdeal.nD Cert.KernelKvqIdeal.τ).loc Cert.KernelKvqIdeal.main_v31_5)),
      θ_run (Cert.KernelKvqIdeal.defs (F := Ideal)) (onTc (τ := Cert.KernelKvqIdeal.τ) (Cert.KernelKvqIdeal.main (F := Ideal))) ⟨m, fun _ => 0, g⟩ (fun r => ∀ c : Dev Cert.KernelKvqIdeal.nD,
          r.2.mem ((c.tc : Thread Cert.KernelKvqIdeal.nD Cert.KernelKvqIdeal.τ).loc Cert.KernelKvqIdeal.main_v31_0) = v0 c
          ∧ r.2.mem ((c.tc : Thread Cert.KernelKvqIdeal.nD Cert.KernelKvqIdeal.τ).loc Cert.KernelKvqIdeal.main_v31_1) = v1 c
          ∧ r.2.mem ((c.tc : Thread Cert.KernelKvqIdeal.nD Cert.KernelKvqIdeal.τ).loc Cert.KernelKvqIdeal.main_v31_2) = v2 c
          ∧ r.2.mem ((c.tc : Thread Cert.KernelKvqIdeal.nD Cert.KernelKvqIdeal.τ).loc Cert.KernelKvqIdeal.main_v31_3) = v3 c
          ∧ r.2.mem ((c.tc : Thread Cert.KernelKvqIdeal.nD Cert.KernelKvqIdeal.τ).loc Cert.KernelKvqIdeal.main_v31_4) = v4 c
          ∧ r.2.mem ((c.tc : Thread Cert.KernelKvqIdeal.nD Cert.KernelKvqIdeal.τ).loc Cert.KernelKvqIdeal.main_v31_5) = v5 c
          ∧ r.2.mem ((c.tc : Thread Cert.KernelKvqIdeal.nD Cert.KernelKvqIdeal.τ).loc Cert.KernelKvqIdeal.main_arg0) = m ((c.tc : Thread Cert.KernelKvqIdeal.nD Cert.KernelKvqIdeal.τ).loc Cert.KernelKvqIdeal.main_arg0)
          ∧ r.2.mem ((c.tc : Thread Cert.KernelKvqIdeal.nD Cert.KernelKvqIdeal.τ).loc Cert.KernelKvqIdeal.main_arg1) = m ((c.tc : Thread Cert.KernelKvqIdeal.nD Cert.KernelKvqIdeal.τ).loc Cert.KernelKvqIdeal.main_arg1)
          ∧ r.2.mem ((c.tc : Thread Cert.KernelKvqIdeal.nD Cert.KernelKvqIdeal.τ).loc Cert.KernelKvqIdeal.main_arg2) = m ((c.tc : Thread Cert.KernelKvqIdeal.nD Cert.KernelKvqIdeal.τ).loc Cert.KernelKvqIdeal.main_arg2)
          ∧ r.2.mem ((c.tc : Thread Cert.KernelKvqIdeal.nD Cert.KernelKvqIdeal.τ).loc Cert.KernelKvqIdeal.main_arg3) = m ((c.tc : Thread Cert.KernelKvqIdeal.nD Cert.KernelKvqIdeal.τ).loc Cert.KernelKvqIdeal.main_arg3)
          ∧ r.2.mem ((c.tc : Thread Cert.KernelKvqIdeal.nD Cert.KernelKvqIdeal.τ).loc Cert.KernelKvqIdeal.main_arg4) = m ((c.tc : Thread Cert.KernelKvqIdeal.nD Cert.KernelKvqIdeal.τ).loc Cert.KernelKvqIdeal.main_arg4)
          ∧ r.2.mem ((c.tc : Thread Cert.KernelKvqIdeal.nD Cert.KernelKvqIdeal.τ).loc Cert.KernelKvqIdeal.main_arg5) = m ((c.tc : Thread Cert.KernelKvqIdeal.nD Cert.KernelKvqIdeal.τ).loc Cert.KernelKvqIdeal.main_arg5)
          ∧ r.2.mem ((c.tc : Thread Cert.KernelKvqIdeal.nD Cert.KernelKvqIdeal.τ).loc Cert.KernelKvqIdeal.main_arg6) = m ((c.tc : Thread Cert.KernelKvqIdeal.nD Cert.KernelKvqIdeal.τ).loc Cert.KernelKvqIdeal.main_arg6)
          ∧ r.2.mem ((c.tc : Thread Cert.KernelKvqIdeal.nD Cert.KernelKvqIdeal.τ).loc Cert.KernelKvqIdeal.main_arg7) = m ((c.tc : Thread Cert.KernelKvqIdeal.nD Cert.KernelKvqIdeal.τ).loc Cert.KernelKvqIdeal.main_arg7)
          ∧ r.2.mem ((c.tc : Thread Cert.KernelKvqIdeal.nD Cert.KernelKvqIdeal.τ).loc Cert.KernelKvqIdeal.main_arg8) = m ((c.tc : Thread Cert.KernelKvqIdeal.nD Cert.KernelKvqIdeal.τ).loc Cert.KernelKvqIdeal.main_arg8)
          ∧ r.2.mem ((c.tc : Thread Cert.KernelKvqIdeal.nD Cert.KernelKvqIdeal.τ).loc Cert.KernelKvqIdeal.main_arg9) = m ((c.tc : Thread Cert.KernelKvqIdeal.nD Cert.KernelKvqIdeal.τ).loc Cert.KernelKvqIdeal.main_arg9))
      ∧ θ_run (Cert.ReferenceKvqIdeal.defs (F := Ideal)) (onTc (τ := Cert.ReferenceKvqIdeal.τ) (Cert.ReferenceKvqIdeal.main (F := Ideal))) ⟨m', fun _ => 0, g'⟩ (fun r => ∀ c : Dev Cert.ReferenceKvqIdeal.nD,
          r.2.mem ((c.tc : Thread Cert.ReferenceKvqIdeal.nD Cert.ReferenceKvqIdeal.τ).loc Cert.ReferenceKvqIdeal.main_v63) = v0 c
          ∧ r.2.mem ((c.tc : Thread Cert.ReferenceKvqIdeal.nD Cert.ReferenceKvqIdeal.τ).loc Cert.ReferenceKvqIdeal.main_v64) = v1 c
          ∧ r.2.mem ((c.tc : Thread Cert.ReferenceKvqIdeal.nD Cert.ReferenceKvqIdeal.τ).loc Cert.ReferenceKvqIdeal.main_v34) = v2 c
          ∧ r.2.mem ((c.tc : Thread Cert.ReferenceKvqIdeal.nD Cert.ReferenceKvqIdeal.τ).loc Cert.ReferenceKvqIdeal.main_v71) = v3 c
          ∧ r.2.mem ((c.tc : Thread Cert.ReferenceKvqIdeal.nD Cert.ReferenceKvqIdeal.τ).loc Cert.ReferenceKvqIdeal.main_v74) = v4 c
          ∧ r.2.mem ((c.tc : Thread Cert.ReferenceKvqIdeal.nD Cert.ReferenceKvqIdeal.τ).loc Cert.ReferenceKvqIdeal.main_v76) = v5 c
          ∧ r.2.mem ((c.tc : Thread Cert.ReferenceKvqIdeal.nD Cert.ReferenceKvqIdeal.τ).loc Cert.ReferenceKvqIdeal.main_arg0) = m' ((c.tc : Thread Cert.ReferenceKvqIdeal.nD Cert.ReferenceKvqIdeal.τ).loc Cert.ReferenceKvqIdeal.main_arg0)
          ∧ r.2.mem ((c.tc : Thread Cert.ReferenceKvqIdeal.nD Cert.ReferenceKvqIdeal.τ).loc Cert.ReferenceKvqIdeal.main_arg1) = m' ((c.tc : Thread Cert.ReferenceKvqIdeal.nD Cert.ReferenceKvqIdeal.τ).loc Cert.ReferenceKvqIdeal.main_arg1)
          ∧ r.2.mem ((c.tc : Thread Cert.ReferenceKvqIdeal.nD Cert.ReferenceKvqIdeal.τ).loc Cert.ReferenceKvqIdeal.main_arg2) = m' ((c.tc : Thread Cert.ReferenceKvqIdeal.nD Cert.ReferenceKvqIdeal.τ).loc Cert.ReferenceKvqIdeal.main_arg2)
          ∧ r.2.mem ((c.tc : Thread Cert.ReferenceKvqIdeal.nD Cert.ReferenceKvqIdeal.τ).loc Cert.ReferenceKvqIdeal.main_arg3) = m' ((c.tc : Thread Cert.ReferenceKvqIdeal.nD Cert.ReferenceKvqIdeal.τ).loc Cert.ReferenceKvqIdeal.main_arg3)
          ∧ r.2.mem ((c.tc : Thread Cert.ReferenceKvqIdeal.nD Cert.ReferenceKvqIdeal.τ).loc Cert.ReferenceKvqIdeal.main_arg4) = m' ((c.tc : Thread Cert.ReferenceKvqIdeal.nD Cert.ReferenceKvqIdeal.τ).loc Cert.ReferenceKvqIdeal.main_arg4)
          ∧ r.2.mem ((c.tc : Thread Cert.ReferenceKvqIdeal.nD Cert.ReferenceKvqIdeal.τ).loc Cert.ReferenceKvqIdeal.main_arg5) = m' ((c.tc : Thread Cert.ReferenceKvqIdeal.nD Cert.ReferenceKvqIdeal.τ).loc Cert.ReferenceKvqIdeal.main_arg5)
          ∧ r.2.mem ((c.tc : Thread Cert.ReferenceKvqIdeal.nD Cert.ReferenceKvqIdeal.τ).loc Cert.ReferenceKvqIdeal.main_arg6) = m' ((c.tc : Thread Cert.ReferenceKvqIdeal.nD Cert.ReferenceKvqIdeal.τ).loc Cert.ReferenceKvqIdeal.main_arg6)
          ∧ r.2.mem ((c.tc : Thread Cert.ReferenceKvqIdeal.nD Cert.ReferenceKvqIdeal.τ).loc Cert.ReferenceKvqIdeal.main_arg7) = m' ((c.tc : Thread Cert.ReferenceKvqIdeal.nD Cert.ReferenceKvqIdeal.τ).loc Cert.ReferenceKvqIdeal.main_arg7)
          ∧ r.2.mem ((c.tc : Thread Cert.ReferenceKvqIdeal.nD Cert.ReferenceKvqIdeal.τ).loc Cert.ReferenceKvqIdeal.main_arg8) = m' ((c.tc : Thread Cert.ReferenceKvqIdeal.nD Cert.ReferenceKvqIdeal.τ).loc Cert.ReferenceKvqIdeal.main_arg8)
          ∧ r.2.mem ((c.tc : Thread Cert.ReferenceKvqIdeal.nD Cert.ReferenceKvqIdeal.τ).loc Cert.ReferenceKvqIdeal.main_arg9) = m' ((c.tc : Thread Cert.ReferenceKvqIdeal.nD Cert.ReferenceKvqIdeal.τ).loc Cert.ReferenceKvqIdeal.main_arg9))

def preserves_KernelPool_KernelPoolIdeal : Prop :=
  True

def algebraic_KernelPoolIdeal_ReferencePoolIdeal_pre_finite_gain [hKernelPoolIdeal : Cert.KernelPoolIdeal.Facts] [hReferencePoolIdeal : Cert.ReferencePoolIdeal.Facts] [hPre_finite_gain : Cert.Pre_finite_gain.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_finite_gain m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)
      ∧ m' ((c.tc : Thread Cert.ReferencePoolIdeal.nD Cert.ReferencePoolIdeal.τ).loc Cert.ReferencePoolIdeal.main_arg4) = m ((c.tc : Thread Cert.KernelPoolIdeal.nD Cert.KernelPoolIdeal.τ).loc Cert.KernelPoolIdeal.main_arg4)
      ∧ m' ((c.tc : Thread Cert.ReferencePoolIdeal.nD Cert.ReferencePoolIdeal.τ).loc Cert.ReferencePoolIdeal.main_arg5) = m ((c.tc : Thread Cert.KernelPoolIdeal.nD Cert.KernelPoolIdeal.τ).loc Cert.KernelPoolIdeal.main_arg5)
      ∧ m' ((c.tc : Thread Cert.ReferencePoolIdeal.nD Cert.ReferencePoolIdeal.τ).loc Cert.ReferencePoolIdeal.main_arg6) = m ((c.tc : Thread Cert.KernelPoolIdeal.nD Cert.KernelPoolIdeal.τ).loc Cert.KernelPoolIdeal.main_arg6)
      ∧ m' ((c.tc : Thread Cert.ReferencePoolIdeal.nD Cert.ReferencePoolIdeal.τ).loc Cert.ReferencePoolIdeal.main_arg7) = m ((c.tc : Thread Cert.KernelPoolIdeal.nD Cert.KernelPoolIdeal.τ).loc Cert.KernelPoolIdeal.main_arg7)) →
    ∃ (v0 : (c : Dev Cert.KernelPoolIdeal.nD) → Buf (Elt Ideal) ((c.tc : Thread Cert.KernelPoolIdeal.nD Cert.KernelPoolIdeal.τ).loc Cert.KernelPoolIdeal.main_v8_0)) (v1 : (c : Dev Cert.KernelPoolIdeal.nD) → Buf (Elt Ideal) ((c.tc : Thread Cert.KernelPoolIdeal.nD Cert.KernelPoolIdeal.τ).loc Cert.KernelPoolIdeal.main_v9)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v8_0) = v0 c
          ∧ r.2.mem ((c.tc : Thread Cert.KernelPoolIdeal.nD Cert.KernelPoolIdeal.τ).loc Cert.KernelPoolIdeal.main_v9) = v1 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3)
          ∧ r.2.mem ((c.tc : Thread Cert.KernelPoolIdeal.nD Cert.KernelPoolIdeal.τ).loc Cert.KernelPoolIdeal.main_arg4) = m ((c.tc : Thread Cert.KernelPoolIdeal.nD Cert.KernelPoolIdeal.τ).loc Cert.KernelPoolIdeal.main_arg4)
          ∧ r.2.mem ((c.tc : Thread Cert.KernelPoolIdeal.nD Cert.KernelPoolIdeal.τ).loc Cert.KernelPoolIdeal.main_arg5) = m ((c.tc : Thread Cert.KernelPoolIdeal.nD Cert.KernelPoolIdeal.τ).loc Cert.KernelPoolIdeal.main_arg5)
          ∧ r.2.mem ((c.tc : Thread Cert.KernelPoolIdeal.nD Cert.KernelPoolIdeal.τ).loc Cert.KernelPoolIdeal.main_arg6) = m ((c.tc : Thread Cert.KernelPoolIdeal.nD Cert.KernelPoolIdeal.τ).loc Cert.KernelPoolIdeal.main_arg6)
          ∧ r.2.mem ((c.tc : Thread Cert.KernelPoolIdeal.nD Cert.KernelPoolIdeal.τ).loc Cert.KernelPoolIdeal.main_arg7) = m ((c.tc : Thread Cert.KernelPoolIdeal.nD Cert.KernelPoolIdeal.τ).loc Cert.KernelPoolIdeal.main_arg7))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v109) = v0 c
          ∧ r.2.mem ((c.tc : Thread Cert.ReferencePoolIdeal.nD Cert.ReferencePoolIdeal.τ).loc Cert.ReferencePoolIdeal.main_v89) = v1 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3)
          ∧ r.2.mem ((c.tc : Thread Cert.ReferencePoolIdeal.nD Cert.ReferencePoolIdeal.τ).loc Cert.ReferencePoolIdeal.main_arg4) = m' ((c.tc : Thread Cert.ReferencePoolIdeal.nD Cert.ReferencePoolIdeal.τ).loc Cert.ReferencePoolIdeal.main_arg4)
          ∧ r.2.mem ((c.tc : Thread Cert.ReferencePoolIdeal.nD Cert.ReferencePoolIdeal.τ).loc Cert.ReferencePoolIdeal.main_arg5) = m' ((c.tc : Thread Cert.ReferencePoolIdeal.nD Cert.ReferencePoolIdeal.τ).loc Cert.ReferencePoolIdeal.main_arg5)
          ∧ r.2.mem ((c.tc : Thread Cert.ReferencePoolIdeal.nD Cert.ReferencePoolIdeal.τ).loc Cert.ReferencePoolIdeal.main_arg6) = m' ((c.tc : Thread Cert.ReferencePoolIdeal.nD Cert.ReferencePoolIdeal.τ).loc Cert.ReferencePoolIdeal.main_arg6)
          ∧ r.2.mem ((c.tc : Thread Cert.ReferencePoolIdeal.nD Cert.ReferencePoolIdeal.τ).loc Cert.ReferencePoolIdeal.main_arg7) = m' ((c.tc : Thread Cert.ReferencePoolIdeal.nD Cert.ReferencePoolIdeal.τ).loc Cert.ReferencePoolIdeal.main_arg7))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelKvq : Cert.KernelKvq.Facts) (hKernelKvqIdeal : Cert.KernelKvqIdeal.Facts) (hReferenceKvqIdeal : Cert.ReferenceKvqIdeal.Facts) (hKernelPool : Cert.KernelPool.Facts) (hKernelPoolIdeal : Cert.KernelPoolIdeal.Facts) (hReferencePoolIdeal : Cert.ReferencePoolIdeal.Facts) (hPre_finite_gain : Cert.Pre_finite_gain.Facts),
    quiescent_Kernel (hKernel := hKernel)
    ∧ quiescent_KernelIdeal (hKernelIdeal := hKernelIdeal)
    ∧ quiescent_ReferenceIdeal (hReferenceIdeal := hReferenceIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelKvq (hKernelKvq := hKernelKvq)
    ∧ quiescent_KernelKvqIdeal (hKernelKvqIdeal := hKernelKvqIdeal)
    ∧ quiescent_ReferenceKvqIdeal (hReferenceKvqIdeal := hReferenceKvqIdeal)
    ∧ quiescent_KernelPool (hKernelPool := hKernelPool)
    ∧ quiescent_KernelPoolIdeal (hKernelPoolIdeal := hKernelPoolIdeal)
    ∧ quiescent_KernelPoolIdeal_pre_finite_gain (hKernelPoolIdeal := hKernelPoolIdeal) (hPre_finite_gain := hPre_finite_gain)
    ∧ quiescent_ReferencePoolIdeal (hReferencePoolIdeal := hReferencePoolIdeal)
    ∧ quiescent_ReferencePoolIdeal_pre_finite_gain (hReferencePoolIdeal := hReferencePoolIdeal) (hPre_finite_gain := hPre_finite_gain)
    ∧ preserves_Kernel_KernelIdeal
    ∧ preserves_KernelOut_KernelOutIdeal
    ∧ algebraic_KernelOutIdeal_ReferenceOutIdeal (hKernelOutIdeal := hKernelOutIdeal) (hReferenceOutIdeal := hReferenceOutIdeal)
    ∧ preserves_KernelKvq_KernelKvqIdeal
    ∧ algebraic_KernelKvqIdeal_ReferenceKvqIdeal (hKernelKvqIdeal := hKernelKvqIdeal) (hReferenceKvqIdeal := hReferenceKvqIdeal)
    ∧ preserves_KernelPool_KernelPoolIdeal
    ∧ algebraic_KernelPoolIdeal_ReferencePoolIdeal_pre_finite_gain (hKernelPoolIdeal := hKernelPoolIdeal) (hReferencePoolIdeal := hReferencePoolIdeal) (hPre_finite_gain := hPre_finite_gain)
-- ==== Pre_finite_gain.lean ====
abbrev S16x4096x1024 : Shape := ⟨3, ![16, 4096, 1024]⟩
abbrev S1024 : Shape := ⟨1, ![1024]⟩
abbrev S4x256x256 : Shape := ⟨3, ![4, 256, 256]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S16x4096x1024 .f32) (main_arg1 : FVec F S1024 .f32) (main_arg2 : FVec F S4x256x256 .f32) (main_arg3 : FVec F S1024 .f32) (main_arg4 : FVec F S1024 .f32) (main_arg5 : FVec F S1024x2816 .f32) (main_arg6 : FVec F S1024x2816 .f32) (main_arg7 : FVec F S2816x1024 .f32) : IVec S1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  main_v2
-- ==== Kernel.lean ====
abbrev S16x4096x16x64 : Shape := ⟨4, ![16, 4096, 16, 64]⟩
abbrev S16x4096x16 : Shape := ⟨3, ![16, 4096, 16]⟩
abbrev S_ : Shape := ⟨0, ![]⟩
abbrev S16x4096x8x128 : Shape := ⟨4, ![16, 4096, 8, 128]⟩
abbrev S16x8x4096x128 : Shape := ⟨4, ![16, 8, 4096, 128]⟩
abbrev S16x4096x1024 : Shape := ⟨3, ![16, 4096, 1024]⟩
abbrev S16x1024x4096 : Shape := ⟨3, ![16, 1024, 4096]⟩
abbrev S16x4096x8x2 : Shape := ⟨4, ![16, 4096, 8, 2]⟩
abbrev S16x8x2x4096 : Shape := ⟨4, ![16, 8, 2, 4096]⟩
abbrev S16x8x8x4096 : Shape := ⟨4, ![16, 8, 8, 4096]⟩
abbrev S1x1x512x128 : Shape := ⟨4, ![1, 1, 512, 128]⟩
abbrev S1x1x4096x128 : Shape := ⟨4, ![1, 1, 4096, 128]⟩
abbrev S1x128x4096 : Shape := ⟨3, ![1, 128, 4096]⟩
abbrev S1x1x8x512 : Shape := ⟨4, ![1, 1, 8, 512]⟩
abbrev S1x1x8x4096 : Shape := ⟨4, ![1, 1, 8, 4096]⟩
abbrev S2x512x128 : Shape := ⟨3, ![2, 512, 128]⟩
abbrev S2x512x512 : Shape := ⟨3, ![2, 512, 512]⟩
abbrev S2x8x512 : Shape := ⟨3, ![2, 8, 512]⟩
abbrev S128x512 : Shape := ⟨2, ![128, 512]⟩
abbrev S512x128 : Shape := ⟨2, ![512, 128]⟩
abbrev S1x128 : Shape := ⟨2, ![1, 128]⟩
abbrev S1x512x128 : Shape := ⟨3, ![1, 512, 128]⟩
abbrev S8x512 : Shape := ⟨2, ![8, 512]⟩
abbrev S16x512 : Shape := ⟨2, ![16, 512]⟩
abbrev S1x1x128x128 : Shape := ⟨4, ![1, 1, 128, 128]⟩
abbrev S128x128 : Shape := ⟨2, ![128, 128]⟩
abbrev S1x1x8x128 : Shape := ⟨4, ![1, 1, 8, 128]⟩
abbrev S8x128 : Shape := ⟨2, ![8, 128]⟩
abbrev S120x128 : Shape := ⟨2, ![120, 128]⟩
abbrev S16x1 : Shape := ⟨2, ![16, 1]⟩
abbrev S1x16x512 : Shape := ⟨3, ![1, 16, 512]⟩
abbrev S1x384x128 : Shape := ⟨3, ![1, 384, 128]⟩
abbrev S384x128 : Shape := ⟨2, ![384, 128]⟩
abbrev S128x384 : Shape := ⟨2, ![128, 384]⟩
abbrev S16x384 : Shape := ⟨2, ![16, 384]⟩
abbrev S1x16x384 : Shape := ⟨3, ![1, 16, 384]⟩
abbrev S16x128 : Shape := ⟨2, ![16, 128]⟩
abbrev S1x256x128 : Shape := ⟨3, ![1, 256, 128]⟩
abbrev S256x128 : Shape := ⟨2, ![256, 128]⟩
abbrev S128x256 : Shape := ⟨2, ![128, 256]⟩
abbrev S16x256 : Shape := ⟨2, ![16, 256]⟩
abbrev S1x16x256 : Shape := ⟨3, ![1, 16, 256]⟩
abbrev S1x128x128 : Shape := ⟨3, ![1, 128, 128]⟩
abbrev S1x16x128 : Shape := ⟨3, ![1, 16, 128]⟩
abbrev S512 : Shape := ⟨1, ![512]⟩
abbrev S1x512 : Shape := ⟨2, ![1, 512]⟩
abbrev S1x1x512 : Shape := ⟨3, ![1, 1, 512]⟩
abbrev S1x64x512 : Shape := ⟨3, ![1, 64, 512]⟩
abbrev S64x512 : Shape := ⟨2, ![64, 512]⟩
abbrev S80x512 : Shape := ⟨2, ![80, 512]⟩
abbrev S1x512x512 : Shape := ⟨3, ![1, 512, 512]⟩
abbrev S512x512 : Shape := ⟨2, ![512, 512]⟩

abbrev nBuf : Space → Nat
  | .hbm => 29
  | .vmem => 19
  | .smem => 0
  | _ => 0

abbrev bufTy : (tb : Table) → Fin (tcTables nBuf tb) → BufTy
  | .hbm, ⟨0, _⟩ => ⟨S16x4096x16x64, .f32⟩
  | .hbm, ⟨1, _⟩ => ⟨S16x4096x16x64, .f32⟩
  | .hbm, ⟨2, _⟩ => ⟨S16x4096x16x64, .f32⟩
  | .hbm, ⟨3, _⟩ => ⟨S16x4096x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x4096x16x64, .f32⟩
  | .hbm, ⟨9, _⟩ => ⟨S16x4096x16x64, .f32⟩
  | .hbm, ⟨10, _⟩ => ⟨S16x4096x8x128, .f32⟩
  | .hbm, ⟨11, _⟩ => ⟨S16x8x4096x128, .f32⟩
  | .hbm, ⟨12, _⟩ => ⟨S16x8x4096x128, .bf16⟩
  | .hbm, ⟨13, _⟩ => ⟨S16x4096x8x128, .f32⟩
  | .hbm, ⟨14, _⟩ => ⟨S16x8x4096x128, .f32⟩
  | .hbm, ⟨15, _⟩ => ⟨S16x8x4096x128, .bf16⟩
  | .hbm, ⟨16, _⟩ => ⟨S16x4096x1024, .f32⟩
  | .hbm, ⟨17, _⟩ => ⟨S16x1024x4096, .f32⟩
  | .hbm, ⟨18, _⟩ => ⟨S16x1024x4096, .bf16⟩
  | .hbm, ⟨19, _⟩ => ⟨S_, .f32⟩
  | .hbm, ⟨20, _⟩ => ⟨S_, .f32⟩
  | .hbm, ⟨21, _⟩ => ⟨S16x4096x16, .f32⟩
  | .hbm, ⟨22, _⟩ => ⟨S16x4096x16, .f32⟩
  | .hbm, ⟨23, _⟩ => ⟨S16x4096x8x2, .f32⟩
  | .hbm, ⟨24, _⟩ => ⟨S16x8x2x4096, .f32⟩
  | .hbm, ⟨25, _⟩ => ⟨S_, .i32⟩
  | .hbm, ⟨26, _⟩ => ⟨S_, .f32⟩
  | .hbm, ⟨27, _⟩ => ⟨S16x8x8x4096, .f32⟩
  | .hbm, ⟨28, _⟩ => ⟨S16x8x4096x128, .bf16⟩
  | .local _ .vmem, ⟨0, _⟩ => ⟨S1x1x512x128, .bf16⟩
  | .local _ .vmem, ⟨1, _⟩ => ⟨S1x1x512x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x1x8x512, .f32⟩
  | .local _ .vmem, ⟨7, _⟩ => ⟨S1x1x8x512, .f32⟩
  | .local _ .vmem, ⟨8, _⟩ => ⟨S1x1x8x4096, .f32⟩
  | .local _ .vmem, ⟨9, _⟩ => ⟨S1x1x8x4096, .f32⟩
  | .local _ .vmem, ⟨10, _⟩ => ⟨S1x1x512x128, .bf16⟩
  | .local _ .vmem, ⟨11, _⟩ => ⟨S1x1x512x128, .bf16⟩
  | .local _ .vmem, ⟨12, _⟩ => ⟨S2x512x128, .bf16⟩
  | .local _ .vmem, ⟨13, _⟩ => ⟨S2x512x512, .f32⟩
  | .local _ .vmem, ⟨14, _⟩ => ⟨S2x512x512, .bf16⟩
  | .local _ .vmem, ⟨15, _⟩ => ⟨S2x8x512, .f32⟩
  | .local _ .vmem, ⟨16, _⟩ => ⟨S2x8x512, .f32⟩
  | .local _ .vmem, ⟨17, _⟩ => ⟨S2x8x512, .f32⟩
  | .local _ .vmem, ⟨18, _⟩ => ⟨S128x512, .f32⟩
  | _, _ => ⟨S16x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 8], ![false, false, false]⟩

def k0_cond1 (i : grid0.Coords) : BitVec 1 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_30 : BitVec 32 := 0#32
  let v53 : BitVec 1 := Scalar.cmpi .eq v18 c0_i32_30
  let v54 : BitVec 32 := Scalar.extui v53
  let c0_i32_31 : BitVec 32 := 0#32
  let v55 : BitVec 1 := Scalar.cmpi .ne v54 c0_i32_31
  v55

def k0_mult1 : BitVec 32 :=
  let c0_i32_845 : BitVec 32 := 0#32
  c0_i32_845
def k0_off1 (c0_i32_847 : BitVec 32) : Fin 4 → Nat :=
  let c0_848 : Index := 0#32
  let c0_849 : Index := 0#32
  let c0_i32_845 : BitVec 32 := 0#32
  let v1482 : BitVec 32 := c0_i32_845
  let v1484 : BitVec 32 := Scalar.addi v1482 c0_i32_847
  let v1485 : Index := Scalar.indexCast v1484
  let c0_850 : Index := 0#32
  ![0, 0, v1485.toNat, 0]
def k0_off2 (c0_i32_851 : BitVec 32) : Fin 4 → Nat :=
  let c0_852 : Index := 0#32
  let c0_853 : Index := 0#32
  let c0_854 : Index := 0#32
  let c0_i32_845 : BitVec 32 := 0#32
  let v1482 : BitVec 32 := c0_i32_845
  let v1488 : BitVec 32 := Scalar.addi v1482 c0_i32_851
  let v1489 : Index := Scalar.indexCast v1488
  ![0, 0, 0, v1489.toNat]
def k0_cond2 (i : grid0.Coords) : BitVec 1 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_32 : BitVec 32 := 0#32
  let v56 : BitVec 1 := Scalar.cmpi .sgt v18 c0_i32_32
  let v57 : BitVec 32 := Scalar.extui v56
  let c0_i32_33 : BitVec 32 := 0#32
  let v58 : BitVec 1 := Scalar.cmpi .ne v57 c0_i32_33
  v58

def k0_mult2 : BitVec 32 :=
  let c0_i32_845 : BitVec 32 := 0#32
  c0_i32_845
def k0_off3 (c0_i32_847 : BitVec 32) : Fin 4 → Nat :=
  let c0_848 : Index := 0#32
  let c0_849 : Index := 0#32
  let c0_i32_845 : BitVec 32 := 0#32
  let v1482 : BitVec 32 := c0_i32_845
  let v1484 : BitVec 32 := Scalar.addi v1482 c0_i32_847
  let v1485 : Index := Scalar.indexCast v1484
  let c0_850 : Index := 0#32
  ![0, 0, v1485.toNat, 0]
def k0_off4 (c0_i32_851 : BitVec 32) : Fin 4 → Nat :=
  let c0_852 : Index := 0#32
  let c0_853 : Index := 0#32
  let c0_854 : Index := 0#32
  let c0_i32_845 : BitVec 32 := 0#32
  let v1482 : BitVec 32 := c0_i32_845
  let v1488 : BitVec 32 := Scalar.addi v1482 c0_i32_851
  let v1489 : Index := Scalar.indexCast v1488
  ![0, 0, 0, v1489.toNat]
@[reducible] def k0_t1_loop (i : grid0.Coords) : Scf.Loop 32 :=
  let c0_i32_36 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_34 : BitVec 32 := 1#32
  let v59 : BitVec 32 := Scalar.subi v18 c1_i32_34
  let v60 : BitVec 32 := Scalar.subi v59 c0_i32_36
  let c1_i32_37 : BitVec 32 := 1#32
  let v62 : BitVec 32 := Scalar.divsi v60 c1_i32_37
  let v63 : BitVec 32 := Scalar.muli v62 c1_i32_37
  let v64 : BitVec 32 := Scalar.addi c0_i32_36 v63
  let c1_i32_38 : BitVec 32 := 1#32
  ⟨c0_i32_36, v64, c1_i32_38⟩
def k0_mult3 (i : grid0.Coords) (k0_t1 : Fin (k0_t1_loop i).trips) : BitVec 32 :=
  let c0_i32_36 : BitVec 32 := 0#32
  let c1_i32_38 : BitVec 32 := 1#32
  let arg16 : BitVec 32 := Scf.iv c0_i32_36 c1_i32_38 k0_t1
  let c512_i32_845 : BitVec 32 := 512#32
  let v1482 : BitVec 32 := Scalar.muli arg16 c512_i32_845
  v1482
def k0_off5 (i : grid0.Coords) (k0_t1 : Fin (k0_t1_loop i).trips) (c0_i32_847 : BitVec 32) : Fin 4 → Nat :=
  let c0_848 : Index := 0#32
  let c0_849 : Index := 0#32
  let c0_i32_36 : BitVec 32 := 0#32
  let c1_i32_38 : BitVec 32 := 1#32
  let arg16 : BitVec 32 := Scf.iv c0_i32_36 c1_i32_38 k0_t1
  let c512_i32_845 : BitVec 32 := 512#32
  let v1482 : BitVec 32 := Scalar.muli arg16 c512_i32_845
  let v1483 : BitVec 32 := v1482
  let v1485 : BitVec 32 := Scalar.addi v1483 c0_i32_847
  let v1486 : Index := Scalar.indexCast v1485
  let c0_850 : Index := 0#32
  ![0, 0, v1486.toNat, 0]
def k0_off6 (i : grid0.Coords) (k0_t1 : Fin (k0_t1_loop i).trips) (c0_i32_851 : BitVec 32) : Fin 4 → Nat :=
  let c0_852 : Index := 0#32
  let c0_853 : Index := 0#32
  let c0_854 : Index := 0#32
  let c0_i32_36 : BitVec 32 := 0#32
  let c1_i32_38 : BitVec 32 := 1#32
  let arg16 : BitVec 32 := Scf.iv c0_i32_36 c1_i32_38 k0_t1
  let c512_i32_845 : BitVec 32 := 512#32
  let v1482 : BitVec 32 := Scalar.muli arg16 c512_i32_845
  let v1483 : BitVec 32 := v1482
  let v1489 : BitVec 32 := Scalar.addi v1483 c0_i32_851
  let v1490 : Index := Scalar.indexCast v1489
  ![0, 0, 0, v1490.toNat]
def k0_off7 (i : grid0.Coords) (k0_t1 : Fin (k0_t1_loop i).trips) : Fin 3 → Nat :=
  let c0_1200 : Index := 0#32
  let c0_1201 : Index := 0#32
  let c0_i32_36 : BitVec 32 := 0#32
  let c1_i32_38 : BitVec 32 := 1#32
  let arg16 : BitVec 32 := Scf.iv c0_i32_36 c1_i32_38 k0_t1
  let c512_i32_845 : BitVec 32 := 512#32
  let v1482 : BitVec 32 := Scalar.muli arg16 c512_i32_845
  let v1483 : BitVec 32 := v1482
  let v2073 : Index := Scalar.indexCast v1483
  ![0, 0, v2073.toNat]
def k0_mult4 (i : grid0.Coords) (k0_t1 : Fin (k0_t1_loop i).trips) : BitVec 32 :=
  let c0_i32_36 : BitVec 32 := 0#32
  let c1_i32_38 : BitVec 32 := 1#32
  let arg16 : BitVec 32 := Scf.iv c0_i32_36 c1_i32_38 k0_t1
  let c1_i32_1217 : BitVec 32 := 1#32
  let v2097 : BitVec 32 := Scalar.addi arg16 c1_i32_1217
  let c512_i32_1218 : BitVec 32 := 512#32
  let v2098 : BitVec 32 := Scalar.muli v2097 c512_i32_1218
  v2098
def k0_off8 (i : grid0.Coords) (k0_t1 : Fin (k0_t1_loop i).trips) (c0_i32_1220 : BitVec 32) : Fin 4 → Nat :=
  let c0_1221 : Index := 0#32
  let c0_1222 : Index := 0#32
  let c0_i32_36 : BitVec 32 := 0#32
  let c1_i32_38 : BitVec 32 := 1#32
  let arg16 : BitVec 32 := Scf.iv c0_i32_36 c1_i32_38 k0_t1
  let c1_i32_1217 : BitVec 32 := 1#32
  let v2097 : BitVec 32 := Scalar.addi arg16 c1_i32_1217
  let c512_i32_1218 : BitVec 32 := 512#32
  let v2098 : BitVec 32 := Scalar.muli v2097 c512_i32_1218
  let v2099 : BitVec 32 := v2098
  let v2101 : BitVec 32 := Scalar.addi v2099 c0_i32_1220
  let v2102 : Index := Scalar.indexCast v2101
  let c0_1223 : Index := 0#32
  ![0, 0, v2102.toNat, 0]
def k0_off9 (i : grid0.Coords) (k0_t1 : Fin (k0_t1_loop i).trips) (c0_i32_1224 : BitVec 32) : Fin 4 → Nat :=
  let c0_1225 : Index := 0#32
  let c0_1226 : Index := 0#32
  let c0_1227 : Index := 0#32
  let c0_i32_36 : BitVec 32 := 0#32
  let c1_i32_38 : BitVec 32 := 1#32
  let arg16 : BitVec 32 := Scf.iv c0_i32_36 c1_i32_38 k0_t1
  let c1_i32_1217 : BitVec 32 := 1#32
  let v2097 : BitVec 32 := Scalar.addi arg16 c1_i32_1217
  let c512_i32_1218 : BitVec 32 := 512#32
  let v2098 : BitVec 32 := Scalar.muli v2097 c512_i32_1218
  let v2099 : BitVec 32 := v2098
  let v2105 : BitVec 32 := Scalar.addi v2099 c0_i32_1224
  let v2106 : Index := Scalar.indexCast v2105
  ![0, 0, 0, v2106.toNat]
def k0_off10 (i : grid0.Coords) (k0_t1 : Fin (k0_t1_loop i).trips) : Fin 3 → Nat :=
  let c0_1573 : Index := 0#32
  let c64_1574 : Index := 64#32
  let c0_i32_36 : BitVec 32 := 0#32
  let c1_i32_38 : BitVec 32 := 1#32
  let arg16 : BitVec 32 := Scf.iv c0_i32_36 c1_i32_38 k0_t1
  let c512_i32_845 : BitVec 32 := 512#32
  let v1482 : BitVec 32 := Scalar.muli arg16 c512_i32_845
  let v1483 : BitVec 32 := v1482
  let v2689 : Index := Scalar.indexCast v1483
  ![0, 64, v2689.toNat]
@[reducible] def k0_t2_loop (i : grid0.Coords) : Scf.Loop 32 :=
  let c0_i32_36 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_34 : BitVec 32 := 1#32
  let v59 : BitVec 32 := Scalar.subi v18 c1_i32_34
  let v60 : BitVec 32 := Scalar.subi v59 c0_i32_36
  let c1_i32_37 : BitVec 32 := 1#32
  let v62 : BitVec 32 := Scalar.divsi v60 c1_i32_37
  let v63 : BitVec 32 := Scalar.muli v62 c1_i32_37
  let v64 : BitVec 32 := Scalar.addi c0_i32_36 v63
  let v61 : BitVec 32 := Scalar.addi c0_i32_36 v60
  let c1_i32_39 : BitVec 32 := 1#32
  ⟨v64, v61, c1_i32_39⟩
def k0_mult5 (i : grid0.Coords) (k0_t2 : Fin (k0_t2_loop i).trips) : BitVec 32 :=
  let c0_i32_36 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_34 : BitVec 32 := 1#32
  let v59 : BitVec 32 := Scalar.subi v18 c1_i32_34
  let v60 : BitVec 32 := Scalar.subi v59 c0_i32_36
  let c1_i32_37 : BitVec 32 := 1#32
  let v62 : BitVec 32 := Scalar.divsi v60 c1_i32_37
  let v63 : BitVec 32 := Scalar.muli v62 c1_i32_37
  let v64 : BitVec 32 := Scalar.addi c0_i32_36 v63
  let c1_i32_39 : BitVec 32 := 1#32
  let arg16 : BitVec 32 := Scf.iv v64 c1_i32_39 k0_t2
  let c512_i32_845 : BitVec 32 := 512#32
  let v1482 : BitVec 32 := Scalar.muli arg16 c512_i32_845
  v1482
def k0_off11 (i : grid0.Coords) (k0_t2 : Fin (k0_t2_loop i).trips) (c0_i32_847 : BitVec 32) : Fin 4 → Nat :=
  let c0_848 : Index := 0#32
  let c0_849 : Index := 0#32
  let c0_i32_36 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_34 : BitVec 32 := 1#32
  let v59 : BitVec 32 := Scalar.subi v18 c1_i32_34
  let v60 : BitVec 32 := Scalar.subi v59 c0_i32_36
  let c1_i32_37 : BitVec 32 := 1#32
  let v62 : BitVec 32 := Scalar.divsi v60 c1_i32_37
  let v63 : BitVec 32 := Scalar.muli v62 c1_i32_37
  let v64 : BitVec 32 := Scalar.addi c0_i32_36 v63
  let c1_i32_39 : BitVec 32 := 1#32
  let arg16 : BitVec 32 := Scf.iv v64 c1_i32_39 k0_t2
  let c512_i32_845 : BitVec 32 := 512#32
  let v1482 : BitVec 32 := Scalar.muli arg16 c512_i32_845
  let v1483 : BitVec 32 := v1482
  let v1485 : BitVec 32 := Scalar.addi v1483 c0_i32_847
  let v1486 : Index := Scalar.indexCast v1485
  let c0_850 : Index := 0#32
  ![0, 0, v1486.toNat, 0]
def k0_off12 (i : grid0.Coords) (k0_t2 : Fin (k0_t2_loop i).trips) (c0_i32_851 : BitVec 32) : Fin 4 → Nat :=
  let c0_852 : Index := 0#32
  let c0_853 : Index := 0#32
  let c0_854 : Index := 0#32
  let c0_i32_36 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_34 : BitVec 32 := 1#32
  let v59 : BitVec 32 := Scalar.subi v18 c1_i32_34
  let v60 : BitVec 32 := Scalar.subi v59 c0_i32_36
  let c1_i32_37 : BitVec 32 := 1#32
  let v62 : BitVec 32 := Scalar.divsi v60 c1_i32_37
  let v63 : BitVec 32 := Scalar.muli v62 c1_i32_37
  let v64 : BitVec 32 := Scalar.addi c0_i32_36 v63
  let c1_i32_39 : BitVec 32 := 1#32
  let arg16 : BitVec 32 := Scf.iv v64 c1_i32_39 k0_t2
  let c512_i32_845 : BitVec 32 := 512#32
  let v1482 : BitVec 32 := Scalar.muli arg16 c512_i32_845
  let v1483 : BitVec 32 := v1482
  let v1489 : BitVec 32 := Scalar.addi v1483 c0_i32_851
  let v1490 : Index := Scalar.indexCast v1489
  ![0, 0, 0, v1490.toNat]
def k0_off13 (i : grid0.Coords) (k0_t2 : Fin (k0_t2_loop i).trips) : Fin 3 → Nat :=
  let c0_1200 : Index := 0#32
  let c0_1201 : Index := 0#32
  let c0_i32_36 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_34 : BitVec 32 := 1#32
  let v59 : BitVec 32 := Scalar.subi v18 c1_i32_34
  let v60 : BitVec 32 := Scalar.subi v59 c0_i32_36
  let c1_i32_37 : BitVec 32 := 1#32
  let v62 : BitVec 32 := Scalar.divsi v60 c1_i32_37
  let v63 : BitVec 32 := Scalar.muli v62 c1_i32_37
  let v64 : BitVec 32 := Scalar.addi c0_i32_36 v63
  let c1_i32_39 : BitVec 32 := 1#32
  let arg16 : BitVec 32 := Scf.iv v64 c1_i32_39 k0_t2
  let c512_i32_845 : BitVec 32 := 512#32
  let v1482 : BitVec 32 := Scalar.muli arg16 c512_i32_845
  let v1483 : BitVec 32 := v1482
  let v2073 : Index := Scalar.indexCast v1483
  ![0, 0, v2073.toNat]
def k0_mult6 (i : grid0.Coords) (k0_t2 : Fin (k0_t2_loop i).trips) : BitVec 32 :=
  let c0_i32_36 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_34 : BitVec 32 := 1#32
  let v59 : BitVec 32 := Scalar.subi v18 c1_i32_34
  let v60 : BitVec 32 := Scalar.subi v59 c0_i32_36
  let c1_i32_37 : BitVec 32 := 1#32
  let v62 : BitVec 32 := Scalar.divsi v60 c1_i32_37
  let v63 : BitVec 32 := Scalar.muli v62 c1_i32_37
  let v64 : BitVec 32 := Scalar.addi c0_i32_36 v63
  let c1_i32_39 : BitVec 32 := 1#32
  let arg16 : BitVec 32 := Scf.iv v64 c1_i32_39 k0_t2
  let c1_i32_1217 : BitVec 32 := 1#32
  let v2097 : BitVec 32 := Scalar.addi arg16 c1_i32_1217
  let c512_i32_1218 : BitVec 32 := 512#32
  let v2098 : BitVec 32 := Scalar.muli v2097 c512_i32_1218
  v2098
def k0_off14 (i : grid0.Coords) (k0_t2 : Fin (k0_t2_loop i).trips) (c0_i32_1220 : BitVec 32) : Fin 4 → Nat :=
  let c0_1221 : Index := 0#32
  let c0_1222 : Index := 0#32
  let c0_i32_36 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_34 : BitVec 32 := 1#32
  let v59 : BitVec 32 := Scalar.subi v18 c1_i32_34
  let v60 : BitVec 32 := Scalar.subi v59 c0_i32_36
  let c1_i32_37 : BitVec 32 := 1#32
  let v62 : BitVec 32 := Scalar.divsi v60 c1_i32_37
  let v63 : BitVec 32 := Scalar.muli v62 c1_i32_37
  let v64 : BitVec 32 := Scalar.addi c0_i32_36 v63
  let c1_i32_39 : BitVec 32 := 1#32
  let arg16 : BitVec 32 := Scf.iv v64 c1_i32_39 k0_t2
  let c1_i32_1217 : BitVec 32 := 1#32
  let v2097 : BitVec 32 := Scalar.addi arg16 c1_i32_1217
  let c512_i32_1218 : BitVec 32 := 512#32
  let v2098 : BitVec 32 := Scalar.muli v2097 c512_i32_1218
  let v2099 : BitVec 32 := v2098
  let v2101 : BitVec 32 := Scalar.addi v2099 c0_i32_1220
  let v2102 : Index := Scalar.indexCast v2101
  let c0_1223 : Index := 0#32
  ![0, 0, v2102.toNat, 0]
def k0_off15 (i : grid0.Coords) (k0_t2 : Fin (k0_t2_loop i).trips) (c0_i32_1224 : BitVec 32) : Fin 4 → Nat :=
  let c0_1225 : Index := 0#32
  let c0_1226 : Index := 0#32
  let c0_1227 : Index := 0#32
  let c0_i32_36 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_34 : BitVec 32 := 1#32
  let v59 : BitVec 32 := Scalar.subi v18 c1_i32_34
  let v60 : BitVec 32 := Scalar.subi v59 c0_i32_36
  let c1_i32_37 : BitVec 32 := 1#32
  let v62 : BitVec 32 := Scalar.divsi v60 c1_i32_37
  let v63 : BitVec 32 := Scalar.muli v62 c1_i32_37
  let v64 : BitVec 32 := Scalar.addi c0_i32_36 v63
  let c1_i32_39 : BitVec 32 := 1#32
  let arg16 : BitVec 32 := Scf.iv v64 c1_i32_39 k0_t2
  let c1_i32_1217 : BitVec 32 := 1#32
  let v2097 : BitVec 32 := Scalar.addi arg16 c1_i32_1217
  let c512_i32_1218 : BitVec 32 := 512#32
  let v2098 : BitVec 32 := Scalar.muli v2097 c512_i32_1218
  let v2099 : BitVec 32 := v2098
  let v2105 : BitVec 32 := Scalar.addi v2099 c0_i32_1224
  let v2106 : Index := Scalar.indexCast v2105
  ![0, 0, 0, v2106.toNat]
def k0_off16 (i : grid0.Coords) (k0_t2 : Fin (k0_t2_loop i).trips) : Fin 3 → Nat :=
  let c0_1573 : Index := 0#32
  let c64_1574 : Index := 64#32
  let c0_i32_36 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_34 : BitVec 32 := 1#32
  let v59 : BitVec 32 := Scalar.subi v18 c1_i32_34
  let v60 : BitVec 32 := Scalar.subi v59 c0_i32_36
  let c1_i32_37 : BitVec 32 := 1#32
  let v62 : BitVec 32 := Scalar.divsi v60 c1_i32_37
  let v63 : BitVec 32 := Scalar.muli v62 c1_i32_37
  let v64 : BitVec 32 := Scalar.addi c0_i32_36 v63
  let c1_i32_39 : BitVec 32 := 1#32
  let arg16 : BitVec 32 := Scf.iv v64 c1_i32_39 k0_t2
  let c512_i32_845 : BitVec 32 := 512#32
  let v1482 : BitVec 32 := Scalar.muli arg16 c512_i32_845
  let v1483 : BitVec 32 := v1482
  let v2689 : Index := Scalar.indexCast v1483
  ![0, 64, v2689.toNat]
def k0_cond3 (i : grid0.Coords) : BitVec 1 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c0_i32_40 : BitVec 32 := 0#32
  let v65 : BitVec 1 := Scalar.cmpi .sgt v18 c0_i32_40
  let v66 : BitVec 32 := Scalar.extui v65
  let c0_i32_41 : BitVec 32 := 0#32
  let v67 : BitVec 1 := Scalar.cmpi .ne v66 c0_i32_41
  v67

def k0_mult7 (i : grid0.Coords) : BitVec 32 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_845 : BitVec 32 := 1#32
  let v1482 : BitVec 32 := Scalar.subi v18 c1_i32_845
  let c512_i32_846 : BitVec 32 := 512#32
  let v1483 : BitVec 32 := Scalar.muli v1482 c512_i32_846
  v1483
def k0_off17 (i : grid0.Coords) (c0_i32_848 : BitVec 32) : Fin 4 → Nat :=
  let c0_849 : Index := 0#32
  let c0_850 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_845 : BitVec 32 := 1#32
  let v1482 : BitVec 32 := Scalar.subi v18 c1_i32_845
  let c512_i32_846 : BitVec 32 := 512#32
  let v1483 : BitVec 32 := Scalar.muli v1482 c512_i32_846
  let v1484 : BitVec 32 := v1483
  let v1486 : BitVec 32 := Scalar.addi v1484 c0_i32_848
  let v1487 : Index := Scalar.indexCast v1486
  let c0_851 : Index := 0#32
  ![0, 0, v1487.toNat, 0]
def k0_off18 (i : grid0.Coords) (c0_i32_852 : BitVec 32) : Fin 4 → Nat :=
  let c0_853 : Index := 0#32
  let c0_854 : Index := 0#32
  let c0_855 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_845 : BitVec 32 := 1#32
  let v1482 : BitVec 32 := Scalar.subi v18 c1_i32_845
  let c512_i32_846 : BitVec 32 := 512#32
  let v1483 : BitVec 32 := Scalar.muli v1482 c512_i32_846
  let v1484 : BitVec 32 := v1483
  let v1490 : BitVec 32 := Scalar.addi v1484 c0_i32_852
  let v1491 : Index := Scalar.indexCast v1490
  ![0, 0, 0, v1491.toNat]
def k0_off19 (i : grid0.Coords) : Fin 3 → Nat :=
  let c0_1201 : Index := 0#32
  let c0_1202 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_845 : BitVec 32 := 1#32
  let v1482 : BitVec 32 := Scalar.subi v18 c1_i32_845
  let c512_i32_846 : BitVec 32 := 512#32
  let v1483 : BitVec 32 := Scalar.muli v1482 c512_i32_846
  let v1484 : BitVec 32 := v1483
  let v2074 : Index := Scalar.indexCast v1484
  ![0, 0, v2074.toNat]
def k0_mult8 (i : grid0.Coords) : BitVec 32 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_845 : BitVec 32 := 1#32
  let v1482 : BitVec 32 := Scalar.subi v18 c1_i32_845
  let c1_i32_1218 : BitVec 32 := 1#32
  let v2098 : BitVec 32 := Scalar.addi v1482 c1_i32_1218
  let c512_i32_1219 : BitVec 32 := 512#32
  let v2099 : BitVec 32 := Scalar.muli v2098 c512_i32_1219
  v2099
def k0_off20 (i : grid0.Coords) (c0_i32_1221 : BitVec 32) : Fin 4 → Nat :=
  let c0_1222 : Index := 0#32
  let c0_1223 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_845 : BitVec 32 := 1#32
  let v1482 : BitVec 32 := Scalar.subi v18 c1_i32_845
  let c1_i32_1218 : BitVec 32 := 1#32
  let v2098 : BitVec 32 := Scalar.addi v1482 c1_i32_1218
  let c512_i32_1219 : BitVec 32 := 512#32
  let v2099 : BitVec 32 := Scalar.muli v2098 c512_i32_1219
  let v2100 : BitVec 32 := v2099
  let v2102 : BitVec 32 := Scalar.addi v2100 c0_i32_1221
  let v2103 : Index := Scalar.indexCast v2102
  let c0_1224 : Index := 0#32
  ![0, 0, v2103.toNat, 0]
def k0_off21 (i : grid0.Coords) (c0_i32_1225 : BitVec 32) : Fin 4 → Nat :=
  let c0_1226 : Index := 0#32
  let c0_1227 : Index := 0#32
  let c0_1228 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_845 : BitVec 32 := 1#32
  let v1482 : BitVec 32 := Scalar.subi v18 c1_i32_845
  let c1_i32_1218 : BitVec 32 := 1#32
  let v2098 : BitVec 32 := Scalar.addi v1482 c1_i32_1218
  let c512_i32_1219 : BitVec 32 := 512#32
  let v2099 : BitVec 32 := Scalar.muli v2098 c512_i32_1219
  let v2100 : BitVec 32 := v2099
  let v2106 : BitVec 32 := Scalar.addi v2100 c0_i32_1225
  let v2107 : Index := Scalar.indexCast v2106
  ![0, 0, 0, v2107.toNat]
def k0_off22 (i : grid0.Coords) : Fin 3 → Nat :=
  let c0_1642 : Index := 0#32
  let c64_1643 : Index := 64#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c1_i32_845 : BitVec 32 := 1#32
  let v1482 : BitVec 32 := Scalar.subi v18 c1_i32_845
  let c512_i32_846 : BitVec 32 := 512#32
  let v1483 : BitVec 32 := Scalar.muli v1482 c512_i32_846
  let v1484 : BitVec 32 := v1483
  let v2938 : Index := Scalar.indexCast v1484
  ![0, 64, v2938.toNat]
def k0_mult9 (i : grid0.Coords) : BitVec 32 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_42 : BitVec 32 := 512#32
  let v68 : BitVec 32 := Scalar.muli v18 c512_i32_42
  v68
def k0_off23 (i : grid0.Coords) (c0_i32_44 : BitVec 32) : Fin 4 → Nat :=
  let c0_45 : Index := 0#32
  let c0_46 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_42 : BitVec 32 := 512#32
  let v68 : BitVec 32 := Scalar.muli v18 c512_i32_42
  let v69 : BitVec 32 := v68
  let v71 : BitVec 32 := Scalar.addi v69 c0_i32_44
  let v72 : Index := Scalar.indexCast v71
  let c0_47 : Index := 0#32
  ![0, 0, v72.toNat, 0]
def k0_off24 (i : grid0.Coords) (c0_i32_48 : BitVec 32) : Fin 4 → Nat :=
  let c0_49 : Index := 0#32
  let c0_50 : Index := 0#32
  let c0_51 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_42 : BitVec 32 := 512#32
  let v68 : BitVec 32 := Scalar.muli v18 c512_i32_42
  let v69 : BitVec 32 := v68
  let v75 : BitVec 32 := Scalar.addi v69 c0_i32_48
  let v76 : Index := Scalar.indexCast v75
  ![0, 0, 0, v76.toNat]
def k0_off25 (i : grid0.Coords) : Fin 3 → Nat :=
  let c0_500 : Index := 0#32
  let c0_501 : Index := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_42 : BitVec 32 := 512#32
  let v68 : BitVec 32 := Scalar.muli v18 c512_i32_42
  let v69 : BitVec 32 := v68
  let v1027 : Index := Scalar.indexCast v69
  ![0, 0, v1027.toNat]
def k0_off26 (i : grid0.Coords) : Fin 3 → Nat :=
  let c0_814 : Index := 0#32
  let c64_815 : Index := 64#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c512_i32_0 : BitVec 32 := 512#32
  let c0_i32_3 : BitVec 32 := 0#32
  let v8 : BitVec 1 := Scalar.cmpi .sgt c512_i32_0 c0_i32_3
  let v9 : BitVec 32 := Scalar.extui v8
  let c0_i32_4 : BitVec 32 := 0#32
  let v10 : BitVec 1 := Scalar.cmpi .slt c512_i32_0 c0_i32_4
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_5 : BitVec 32 := 0#32
  let v15 : BitVec 1 := Scalar.cmpi .ne v14 c0_i32_5
  let v16 : BitVec 1 := Scalar.andi v13 v15
  let v2 : BitVec 32 := Scalar.divsi v1 c512_i32_0
  let c1_i32 : BitVec 32 := 1#32
  let v17 : BitVec 32 := Scalar.subi v2 c1_i32
  let v18 : BitVec 32 := Scalar.select v16 v17 v2
  let c512_i32_42 : BitVec 32 := 512#32
  let v68 : BitVec 32 := Scalar.muli v18 c512_i32_42
  let v69 : BitVec 32 := v68
  let v1442 : Index := Scalar.indexCast v69
  ![0, 64, v1442.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x4096x16x64 : Shape := ⟨4, ![16, 4096, 16, 64]⟩
abbrev S16x4096x16 : Shape := ⟨3, ![16, 4096, 16]⟩
abbrev S16x16x4096x4096 : Shape := ⟨4, ![16, 16, 4096, 4096]⟩
abbrev S_ : Shape := ⟨0, ![]⟩
abbrev S16x16x4096 : Shape := ⟨3, ![16, 16, 4096]⟩
abbrev S16x16x4096x1 : Shape := ⟨4, ![16, 16, 4096, 1]⟩
abbrev S16x16x1x4096 : Shape := ⟨4, ![16, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x16x64x4096 : Shape := ⟨4, ![16, 16, 64, 4096]⟩
abbrev S16x4096x8x128 : Shape := ⟨4, ![16, 4096, 8, 128]⟩
abbrev S16x8x4096x128 : Shape := ⟨4, ![16, 8, 4096, 128]⟩

abbrev nBuf : Space → Nat
  | .hbm => 46
  | .vmem => 0
  | .smem => 0
  | _ => 0

abbrev bufTy : (tb : Table) → Fin (tcTables nBuf tb) → BufTy
  | .hbm, ⟨0, _⟩ => ⟨S16x4096x16x64, .f32⟩
  | .hbm, ⟨1, _⟩ => ⟨S16x4096x16x64, .f32⟩
  | .hbm, ⟨2, _⟩ => ⟨S16x4096x16x64, .f32⟩
  | .hbm, ⟨3, _⟩ => ⟨S16x4096x16, .f32⟩
  | .hbm, ⟨4, _⟩ => ⟨S16x16x4096x4096, .f32⟩
  | .hbm, ⟨5, _⟩ => ⟨S_, .f32⟩
  | .hbm, ⟨6, _⟩ => ⟨S16x16x4096x4096, .f32⟩
  | .hbm, ⟨7, _⟩ => ⟨S16x16x4096x4096, .f32⟩
  | .hbm, ⟨8, _⟩ => ⟨S16x16x4096, .f32⟩
  | .hbm, ⟨9, _⟩ => ⟨S16x16x4096x1, .f32⟩
  | .hbm, ⟨10, _⟩ => ⟨S16x16x4096, .f32⟩
  | .hbm, ⟨11, _⟩ => ⟨S16x16x1x4096, .f32⟩
  | .hbm, ⟨12, _⟩ => ⟨S16x16x4096x4096, .f32⟩
  | .hbm, ⟨13, _⟩ => ⟨S16x16x4096x4096, .f32⟩
  | .hbm, ⟨14, _⟩ => ⟨S16x16x4096x4096, .f32⟩
  | .hbm, ⟨15, _⟩ => ⟨S16x16x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S16x16x4096x4096, .i1⟩
  | .hbm, ⟨25, _⟩ => ⟨S16x16x4096x4096, .f32⟩
  | .hbm, ⟨26, _⟩ => ⟨S16x16x4096x4096, .f32⟩
  | .hbm, ⟨27, _⟩ => ⟨S_, .f32⟩
  | .hbm, ⟨28, _⟩ => ⟨S16x16x4096, .f32⟩
  | .hbm, ⟨29, _⟩ => ⟨S_, .f32⟩
  | .hbm, ⟨30, _⟩ => ⟨S16x16x4096, .f32⟩
  | .hbm, ⟨31, _⟩ => ⟨S16x16x4096, .f32⟩
  | .hbm, ⟨32, _⟩ => ⟨S16x16x4096x1, .f32⟩
  | .hbm, ⟨33, _⟩ => ⟨S16x16x4096x4096, .f32⟩
  | .hbm, ⟨34, _⟩ => ⟨S16x16x4096x4096, .f32⟩
  | .hbm, ⟨35, _⟩ => ⟨S16x16x4096x4096, .f32⟩
  | .hbm, ⟨36, _⟩ => ⟨S_, .f32⟩
  | .hbm, ⟨37, _⟩ => ⟨S16x16x4096, .f32⟩
  | .hbm, ⟨38, _⟩ => ⟨S16x16x4096x1, .f32⟩
  | .hbm, ⟨39, _⟩ => ⟨S16x16x4096x4096, .f32⟩
  | .hbm, ⟨40, _⟩ => ⟨S16x16x4096x4096, .f32⟩
  | .hbm, ⟨41, _⟩ => ⟨S16x16x64x4096, .f32⟩
  | .hbm, ⟨42, _⟩ => ⟨S16x4096x16x64, .f32⟩
  | .hbm, ⟨43, _⟩ => ⟨S16x4096x8x128, .f32⟩
  | .hbm, ⟨44, _⟩ => ⟨S16x8x4096x128, .f32⟩
  | .hbm, ⟨45, _⟩ => ⟨S16x8x4096x128, .bf16⟩
  | _, _ => ⟨S16x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== KernelOut.lean ====
abbrev S16x4096x1024 : Shape := ⟨3, ![16, 4096, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16x4096x8x128 : Shape := ⟨4, ![16, 4096, 8, 128]⟩
abbrev S16x8x4096x128 : Shape := ⟨4, ![16, 8, 4096, 128]⟩
abbrev S1x1024 : Shape := ⟨2, ![1, 1024]⟩
abbrev S1x512x1024 : Shape := ⟨3, ![1, 512, 1024]⟩
abbrev S1x8x512x128 : Shape := ⟨4, ![1, 8, 512, 128]⟩
abbrev S1x1x512x128 : Shape := ⟨4, ![1, 1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 16
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16x4096x8x128, .f32⟩
  | .hbm, ⟨8, _⟩ => ⟨S16x8x4096x128, .f32⟩
  | .hbm, ⟨9, _⟩ => ⟨S16x8x4096x128, .bf16⟩
  | .hbm, ⟨10, _⟩ => ⟨S1024x1024, .bf16⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x512x128, .bf16⟩
  | .local _ .vmem, ⟨3, _⟩ => ⟨S1x8x512x128, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x512x1024, .f32⟩
  | .local _ .vmem, ⟨10, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceOutIdeal.lean ====
abbrev S16x4096x1024 : Shape := ⟨3, ![16, 4096, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16x4096x1024, .f32⟩
  | .hbm, ⟨8, _⟩ => ⟨S16x4096x1024, .f32⟩
  | .hbm, ⟨9, _⟩ => ⟨S16x4096x1024, .f32⟩
  | .hbm, ⟨10, _⟩ => ⟨S_, .f32⟩
  | .hbm, ⟨11, _⟩ => ⟨S16x4096, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S1x1x1024, .f32⟩
  | .hbm, ⟨23, _⟩ => ⟨S16x4096x1024, .f32⟩
  | .hbm, ⟨24, _⟩ => ⟨S16x4096x1024, .f32⟩
  | .hbm, ⟨25, _⟩ => ⟨S16x4096x2816, .f32⟩
  | .hbm, ⟨26, _⟩ => ⟨S16x4096x2816, .f32⟩
  | .hbm, ⟨27, _⟩ => ⟨S16x4096x2816, .f32⟩
  | .hbm, ⟨28, _⟩ => ⟨S_, .f32⟩
  | .hbm, ⟨29, _⟩ => ⟨S16x4096x2816, .f32⟩
  | .hbm, ⟨30, _⟩ => ⟨S16x4096x2816, .f32⟩
  | .hbm, ⟨31, _⟩ => ⟨S_, .f32⟩
  | .hbm, ⟨32, _⟩ => ⟨S16x4096x2816, .f32⟩
  | .hbm, ⟨33, _⟩ => ⟨S16x4096x2816, .f32⟩
  | .hbm, ⟨34, _⟩ => ⟨S16x4096x2816, .f32⟩
  | .hbm, ⟨35, _⟩ => ⟨S16x4096x2816, .f32⟩
  | .hbm, ⟨36, _⟩ => ⟨S16x4096x2816, .f32⟩
  | .hbm, ⟨37, _⟩ => ⟨S16x4096x1024, .f32⟩
  | .hbm, ⟨38, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== KernelKvq.lean ====
abbrev S16x4096x1024 : Shape := ⟨3, ![16, 4096, 1024]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S64 : Shape := ⟨1, ![64]⟩
abbrev S_ : Shape := ⟨0, ![]⟩
abbrev S1024x128 : Shape := ⟨2, ![1024, 128]⟩
abbrev S1024x1 : Shape := ⟨2, ![1024, 1]⟩
abbrev S128 : Shape := ⟨1, ![128]⟩
abbrev S1x128 : Shape := ⟨2, ![1, 128]⟩
abbrev S128x1024 : Shape := ⟨2, ![128, 1024]⟩
abbrev S1x128x1x1024 : Shape := ⟨4, ![1, 128, 1, 1024]⟩
abbrev S2x128x1x1024 : Shape := ⟨4, ![2, 128, 1, 1024]⟩
abbrev S256x1024 : Shape := ⟨2, ![256, 1024]⟩
abbrev S1x64 : Shape := ⟨2, ![1, 64]⟩
abbrev S16x64 : Shape := ⟨2, ![16, 64]⟩
abbrev S1x1024 : Shape := ⟨2, ![1, 1024]⟩
abbrev S1x16 : Shape := ⟨2, ![1, 16]⟩
abbrev S16x4096x16 : Shape := ⟨3, ![16, 4096, 16]⟩
abbrev S16x8x4096x128 : Shape := ⟨4, ![16, 8, 4096, 128]⟩
abbrev S16x1024x4096 : Shape := ⟨3, ![16, 1024, 4096]⟩
abbrev S1x512x1024 : Shape := ⟨3, ![1, 512, 1024]⟩
abbrev S1x512x16 : Shape := ⟨3, ![1, 512, 16]⟩
abbrev S1x8x512x128 : Shape := ⟨4, ![1, 8, 512, 128]⟩
abbrev S1x1024x512 : Shape := ⟨3, ![1, 1024, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S512x256 : Shape := ⟨2, ![512, 256]⟩
abbrev S1x1x512x128 : Shape := ⟨4, ![1, 1, 512, 128]⟩
abbrev S1024x512 : Shape := ⟨2, ![1024, 512]⟩
abbrev S512x16 : Shape := ⟨2, ![512, 16]⟩

abbrev nBuf : Space → Nat
  | .hbm => 70
  | .vmem => 25
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x16, .f32⟩
  | .hbm, ⟨6, _⟩ => ⟨S16, .f32⟩
  | .hbm, ⟨7, _⟩ => ⟨S1024x1024, .f32⟩
  | .hbm, ⟨8, _⟩ => ⟨S64, .f32⟩
  | .hbm, ⟨9, _⟩ => ⟨S64, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024, .i32⟩
  | .hbm, ⟨15, _⟩ => ⟨S_, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S128, .i32⟩
  | .hbm, ⟨35, _⟩ => ⟨S1x128, .i32⟩
  | .hbm, ⟨36, _⟩ => ⟨S1024x128, .i32⟩
  | .hbm, ⟨37, _⟩ => ⟨S1024x128, .i32⟩
  | .hbm, ⟨38, _⟩ => ⟨S1024x128, .i1⟩
  | .hbm, ⟨39, _⟩ => ⟨S_, .f32⟩
  | .hbm, ⟨40, _⟩ => ⟨S_, .f32⟩
  | .hbm, ⟨41, _⟩ => ⟨S1024x128, .f32⟩
  | .hbm, ⟨42, _⟩ => ⟨S1024x128, .f32⟩
  | .hbm, ⟨43, _⟩ => ⟨S1024x128, .f32⟩
  | .hbm, ⟨44, _⟩ => ⟨S1024x128, .bf16⟩
  | .hbm, ⟨45, _⟩ => ⟨S128x1024, .i1⟩
  | .hbm, ⟨46, _⟩ => ⟨S128x1024, .bf16⟩
  | .hbm, ⟨47, _⟩ => ⟨S1x128x1x1024, .bf16⟩
  | .hbm, ⟨48, _⟩ => ⟨S2x128x1x1024, .bf16⟩
  | .hbm, ⟨49, _⟩ => ⟨S256x1024, .bf16⟩
  | .hbm, ⟨50, _⟩ => ⟨S1x64, .f32⟩
  | .hbm, ⟨51, _⟩ => ⟨S16x64, .f32⟩
  | .hbm, ⟨52, _⟩ => ⟨S1024, .f32⟩
  | .hbm, ⟨53, _⟩ => ⟨S1x1024, .f32⟩
  | .hbm, ⟨54, _⟩ => ⟨S1x64, .f32⟩
  | .hbm, ⟨55, _⟩ => ⟨S16x64, .f32⟩
  | .hbm, ⟨56, _⟩ => ⟨S1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1024x1024, .bf16⟩
  | .hbm, ⟨61, _⟩ => ⟨S1024x1024, .bf16⟩
  | .hbm, ⟨62, _⟩ => ⟨S1x16, .f32⟩
  | .hbm, ⟨63, _⟩ => ⟨S1024x1024, .bf16⟩
  | .hbm, ⟨64, _⟩ => ⟨S16x4096x1024, .f32⟩
  | .hbm, ⟨65, _⟩ => ⟨S16x4096x1024, .f32⟩
  | .hbm, ⟨66, _⟩ => ⟨S16x4096x16, .f32⟩
  | .hbm, ⟨67, _⟩ => ⟨S16x8x4096x128, .bf16⟩
  | .hbm, ⟨68, _⟩ => ⟨S16x8x4096x128, .bf16⟩
  | .hbm, ⟨69, _⟩ => ⟨S16x1024x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S1x16, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x128, .bf16⟩
  | .local _ .vmem, ⟨12, _⟩ => ⟨S256x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x16, .f32⟩
  | .local _ .vmem, ⟨18, _⟩ => ⟨S1x512x16, .f32⟩
  | .local _ .vmem, ⟨19, _⟩ => ⟨S1x8x512x128, .bf16⟩
  | .local _ .vmem, ⟨20, _⟩ => ⟨S1x8x512x128, .bf16⟩
  | .local _ .vmem, ⟨21, _⟩ => ⟨S1x8x512x128, .bf16⟩
  | .local _ .vmem, ⟨22, _⟩ => ⟨S1x8x512x128, .bf16⟩
  | .local _ .vmem, ⟨23, _⟩ => ⟨S1x1024x512, .bf16⟩
  | .local _ .vmem, ⟨24, _⟩ => ⟨S1x1024x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst : Ref sig .tc := ⟨.hbm, 39, rfl⟩
abbrev main_cst_1 : Ref sig .tc := ⟨.hbm, 40, rfl⟩
abbrev main_call2_v0 : Ref sig .tc := ⟨.hbm, 41, rfl⟩
abbrev main_call2_v1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31_0 : Ref sig .tc := ⟨.hbm, 64, rfl⟩
abbrev main_v31_1 : Ref sig .tc := ⟨.hbm, 65, rfl⟩
abbrev main_v31_2 : Ref sig .tc := ⟨.hbm, 66, rfl⟩
abbrev main_v31_3 : Ref sig .tc := ⟨.hbm, 67, rfl⟩
abbrev main_v31_4 : Ref sig .tc := ⟨.hbm, 68, rfl⟩
abbrev main_v31_5 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KernelKvqIdeal.lean ====
variable {F : FTy → Type} [FloatOps F] [Named F]
def κ : String → Option EReal := fun
  | "scale" => some (((1 / 8) * (Real.log 2)⁻¹ : ℝ) : EReal)
  | _ => none
-- ==== ReferenceKvqIdeal.lean ====
abbrev S16x4096x1024 : Shape := ⟨3, ![16, 4096, 1024]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S64 : Shape := ⟨1, ![64]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x16x64 : Shape := ⟨4, ![16, 4096, 16, 64]⟩
abbrev S16x4096x16 : Shape := ⟨3, ![16, 4096, 16]⟩
abbrev S16x4096x16x1 : Shape := ⟨4, ![16, 4096, 16, 1]⟩
abbrev S1x1x1x64 : Shape := ⟨4, ![1, 1, 1, 64]⟩
abbrev S1x1x16 : Shape := ⟨3, ![1, 1, 16]⟩
abbrev S16x4096x8x128 : Shape := ⟨4, ![16, 4096, 8, 128]⟩
abbrev S16x8x4096x128 : Shape := ⟨4, ![16, 8, 4096, 128]⟩
abbrev S16x1024x4096 : Shape := ⟨3, ![16, 1024, 4096]⟩

abbrev nBuf : Space → Nat
  | .hbm => 116
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x16, .f32⟩
  | .hbm, ⟨6, _⟩ => ⟨S16, .f32⟩
  | .hbm, ⟨7, _⟩ => ⟨S1024x1024, .f32⟩
  | .hbm, ⟨8, _⟩ => ⟨S64, .f32⟩
  | .hbm, ⟨9, _⟩ => ⟨S64, .f32⟩
  | .hbm, ⟨10, _⟩ => ⟨S16x4096x1024, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1, .f32⟩
  | .hbm, ⟨21, _⟩ => ⟨S16x4096x1024, .f32⟩
  | .hbm, ⟨22, _⟩ => ⟨S16x4096x1024, .f32⟩
  | .hbm, ⟨23, _⟩ => ⟨S1x1x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x16x64, .f32⟩
  | .hbm, ⟨28, _⟩ => ⟨S16x4096x16x64, .f32⟩
  | .hbm, ⟨29, _⟩ => ⟨S_, .f32⟩
  | .hbm, ⟨30, _⟩ => ⟨S16x4096x16, .f32⟩
  | .hbm, ⟨31, _⟩ => ⟨S16x4096x16x1, .f32⟩
  | .hbm, ⟨32, _⟩ => ⟨S_, .f32⟩
  | .hbm, ⟨33, _⟩ => ⟨S16x4096x16x1, .f32⟩
  | .hbm, ⟨34, _⟩ => ⟨S16x4096x16x1, .f32⟩
  | .hbm, ⟨35, _⟩ => ⟨S_, .f32⟩
  | .hbm, ⟨36, _⟩ => ⟨S16x4096x16x1, .f32⟩
  | .hbm, ⟨37, _⟩ => ⟨S16x4096x16x1, .f32⟩
  | .hbm, ⟨38, _⟩ => ⟨S16x4096x16x1, .f32⟩
  | .hbm, ⟨39, _⟩ => ⟨S16x4096x16x64, .f32⟩
  | .hbm, ⟨40, _⟩ => ⟨S16x4096x16x64, .f32⟩
  | .hbm, ⟨41, _⟩ => ⟨S1x1x1x64, .f32⟩
  | .hbm, ⟨42, _⟩ => ⟨S16x4096x16x64, .f32⟩
  | .hbm, ⟨43, _⟩ => ⟨S16x4096x16x64, .f32⟩
  | .hbm, ⟨44, _⟩ => ⟨S16x4096x1024, .f32⟩
  | .hbm, ⟨45, _⟩ => ⟨S16x4096x16x64, .f32⟩
  | .hbm, ⟨46, _⟩ => ⟨S16x4096x16, .f32⟩
  | .hbm, ⟨47, _⟩ => ⟨S1x1x16, .f32⟩
  | .hbm, ⟨48, _⟩ => ⟨S16x4096x16, .f32⟩
  | .hbm, ⟨49, _⟩ => ⟨S16x4096x16, .f32⟩
  | .hbm, ⟨50, _⟩ => ⟨S16x4096x16, .f32⟩
  | .hbm, ⟨51, _⟩ => ⟨S_, .f32⟩
  | .hbm, ⟨52, _⟩ => ⟨S16x4096x16, .f32⟩
  | .hbm, ⟨53, _⟩ => ⟨S16x4096x16, .f32⟩
  | .hbm, ⟨54, _⟩ => ⟨S16x4096x16, .f32⟩
  | .hbm, ⟨55, _⟩ => ⟨S16x4096x16, .f32⟩
  | .hbm, ⟨56, _⟩ => ⟨S16x4096x16, .i1⟩
  | .hbm, ⟨57, _⟩ => ⟨S16x4096x16, .f32⟩
  | .hbm, ⟨58, _⟩ => ⟨S16x4096x16, .f32⟩
  | .hbm, ⟨59, _⟩ => ⟨S16x4096x16, .f32⟩
  | .hbm, ⟨60, _⟩ => ⟨S16x4096x16, .f32⟩
  | .hbm, ⟨61, _⟩ => ⟨S16x4096x16, .f32⟩
  | .hbm, ⟨62, _⟩ => ⟨S16x4096x16, .f32⟩
  | .hbm, ⟨63, _⟩ => ⟨S16x4096x16, .f32⟩
  | .hbm, ⟨64, _⟩ => ⟨S16x4096x16, .f32⟩
  | .hbm, ⟨65, _⟩ => ⟨S16x4096x16, .f32⟩
  | .hbm, ⟨66, _⟩ => ⟨S16x4096x1024, .f32⟩
  | .hbm, ⟨67, _⟩ => ⟨S_, .f32⟩
  | .hbm, ⟨68, _⟩ => ⟨S16x4096, .f32⟩
  | .hbm, ⟨69, _⟩ => ⟨S16x4096x1, .f32⟩
  | .hbm, ⟨70, _⟩ => ⟨S_, .f32⟩
  | .hbm, ⟨71, _⟩ => ⟨S16x4096x1, .f32⟩
  | .hbm, ⟨72, _⟩ => ⟨S16x4096x1, .f32⟩
  | .hbm, ⟨73, _⟩ => ⟨S_, .f32⟩
  | .hbm, ⟨74, _⟩ => ⟨S16x4096x1, .f32⟩
  | .hbm, ⟨75, _⟩ => ⟨S16x4096x1, .f32⟩
  | .hbm, ⟨76, _⟩ => ⟨S16x4096x1, .f32⟩
  | .hbm, ⟨77, _⟩ => ⟨S16x4096x1024, .f32⟩
  | .hbm, ⟨78, _⟩ => ⟨S16x4096x1024, .f32⟩
  | .hbm, ⟨79, _⟩ => ⟨S1x1x1024, .f32⟩
  | .hbm, ⟨80, _⟩ => ⟨S16x4096x1024, .f32⟩
  | .hbm, ⟨81, _⟩ => ⟨S16x4096x1024, .f32⟩
  | .hbm, ⟨82, _⟩ => ⟨S16x4096x1024, .f32⟩
  | .hbm, ⟨83, _⟩ => ⟨S16x4096x16x64, .f32⟩
  | .hbm, ⟨84, _⟩ => ⟨S16x4096x16x64, .f32⟩
  | .hbm, ⟨85, _⟩ => ⟨S_, .f32⟩
  | .hbm, ⟨86, _⟩ => ⟨S16x4096x16, .f32⟩
  | .hbm, ⟨87, _⟩ => ⟨S16x4096x16x1, .f32⟩
  | .hbm, ⟨88, _⟩ => ⟨S_, .f32⟩
  | .hbm, ⟨89, _⟩ => ⟨S16x4096x16x1, .f32⟩
  | .hbm, ⟨90, _⟩ => ⟨S16x4096x16x1, .f32⟩
  | .hbm, ⟨91, _⟩ => ⟨S_, .f32⟩
  | .hbm, ⟨92, _⟩ => ⟨S16x4096x16x1, .f32⟩
  | .hbm, ⟨93, _⟩ => ⟨S16x4096x16x1, .f32⟩
  | .hbm, ⟨94, _⟩ => ⟨S16x4096x16x1, .f32⟩
  | .hbm, ⟨95, _⟩ => ⟨S16x4096x16x64, .f32⟩
  | .hbm, ⟨96, _⟩ => ⟨S16x4096x16x64, .f32⟩
  | .hbm, ⟨97, _⟩ => ⟨S1x1x1x64, .f32⟩
  | .hbm, ⟨98, _⟩ => ⟨S16x4096x16x64, .f32⟩
  | .hbm, ⟨99, _⟩ => ⟨S16x4096x16x64, .f32⟩
  | .hbm, ⟨100, _⟩ => ⟨S16x4096x1024, .f32⟩
  | .hbm, ⟨101, _⟩ => ⟨S16x4096x1024, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S16x4096x16x64, .f32⟩
  | .hbm, ⟨107, _⟩ => ⟨S16x4096x16x64, .f32⟩
  | .hbm, ⟨108, _⟩ => ⟨S16x4096x8x128, .f32⟩
  | .hbm, ⟨109, _⟩ => ⟨S16x8x4096x128, .f32⟩
  | .hbm, ⟨110, _⟩ => ⟨S16x8x4096x128, .bf16⟩
  | .hbm, ⟨111, _⟩ => ⟨S16x4096x8x128, .f32⟩
  | .hbm, ⟨112, _⟩ => ⟨S16x8x4096x128, .f32⟩
  | .hbm, ⟨113, _⟩ => ⟨S16x8x4096x128, .bf16⟩
  | .hbm, ⟨114, _⟩ => ⟨S16x1024x4096, .f32⟩
  | .hbm, ⟨115, _⟩ => ⟨S16x1024x4096, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_v37 : Ref sig .tc := ⟨.hbm, 69, rfl⟩
abbrev main_cst_6 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_8 : Ref sig .tc := ⟨.hbm, 85, rfl⟩
abbrev main_v51 : Ref sig .tc := ⟨.hbm, 86, rfl⟩
abbrev main_v52 : Ref sig .tc := ⟨.hbm, 87, rfl⟩
abbrev main_cst_9 : Ref sig .tc := ⟨.hbm, 88, rfl⟩
abbrev main_v53 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_11 : Ref sig .tc := ⟨.hbm, 102, rfl⟩
abbrev main_v65 : Ref sig .tc := ⟨.hbm, 103, rfl⟩
abbrev main_cst_12 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩

abbrev nD : Nat := 1
abbrev τ : Topo := Topo.v7x

variable {F : FTy → Type} [FloatOps F]
-- ==== KernelPool.lean ====
abbrev S16x4096x1024 : Shape := ⟨3, ![16, 4096, 1024]⟩
abbrev S1024 : Shape := ⟨1, ![1024]⟩
abbrev S4x256x256 : Shape := ⟨3, ![4, 256, 256]⟩
abbrev S1024x2816 : Shape := ⟨2, ![1024, 2816]⟩
abbrev S2816x1024 : Shape := ⟨2, ![2816, 1024]⟩
abbrev S_ : Shape := ⟨0, ![]⟩
abbrev S16x16x1024 : Shape := ⟨3, ![16, 16, 1024]⟩
abbrev S1x1024 : Shape := ⟨2, ![1, 1024]⟩
abbrev S1x512x1024 : Shape := ⟨3, ![1, 512, 1024]⟩
abbrev S1x16x1024 : Shape := ⟨3, ![1, 16, 1024]⟩
abbrev S528x1024 : Shape := ⟨2, ![528, 1024]⟩
abbrev S512x1024 : Shape := ⟨2, ![512, 1024]⟩
abbrev S512 : Shape := ⟨1, ![512]⟩
abbrev S512x1 : Shape := ⟨2, ![512, 1]⟩
abbrev S16x1024 : Shape := ⟨2, ![16, 1024]⟩
abbrev S512x256 : Shape := ⟨2, ![512, 256]⟩
abbrev S1x256x256 : Shape := ⟨3, ![1, 256, 256]⟩
abbrev S256x256 : Shape := ⟨2, ![256, 256]⟩
abbrev S512x2816 : Shape := ⟨2, ![512, 2816]⟩
abbrev S16x15x1024 : Shape := ⟨3, ![16, 15, 1024]⟩

abbrev nBuf : Space → Nat
  | .hbm => 20
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S_, .f32⟩
  | .hbm, ⟨9, _⟩ => ⟨S16x16x1024, .f32⟩
  | .hbm, ⟨10, _⟩ => ⟨S1x1024, .f32⟩
  | .hbm, ⟨11, _⟩ => ⟨S4x256x256, .bf16⟩
  | .hbm, ⟨12, _⟩ => ⟨S1x1024, .f32⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S16x4096x1024, .f32⟩
  | .hbm, ⟨18, _⟩ => ⟨S16x16x1024, .f32⟩
  | .hbm, ⟨19, _⟩ => ⟨S16x15x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1024, .f32⟩
  | .local _ .vmem, ⟨5, _⟩ => ⟨S4x256x256, .bf16⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x16x1024, .f32⟩
  | .local _ .vmem, ⟨14, _⟩ => ⟨S1x16x1024, .f32⟩
  | .local _ .vmem, ⟨15, _⟩ => ⟨S528x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferencePoolIdeal.lean ====
abbrev S16x4096x1024 : Shape := ⟨3, ![16, 4096, 1024]⟩
abbrev S1024 : Shape := ⟨1, ![1024]⟩
abbrev S4x256x256 : Shape := ⟨3, ![4, 256, 256]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x15x1024 : Shape := ⟨3, ![16, 15, 1024]⟩
abbrev S16x4111x1024 : Shape := ⟨3, ![16, 4111, 1024]⟩
abbrev S16x4112x1024 : Shape := ⟨3, ![16, 4112, 1024]⟩
abbrev S4096 : Shape := ⟨1, ![4096]⟩
abbrev S16x4096x256 : Shape := ⟨3, ![16, 4096, 256]⟩
abbrev S1x4096x1 : Shape := ⟨3, ![1, 4096, 1]⟩
abbrev S1x256x256 : Shape := ⟨3, ![1, 256, 256]⟩
abbrev S256x256 : Shape := ⟨2, ![256, 256]⟩
abbrev S16x4096x2816 : Shape := ⟨3, ![16, 4096, 2816]⟩

abbrev nBuf : Space → Nat
  | .hbm => 146
  | .vmem => 0
  | .smem => 0
  | _ => 0

abbrev hbmTy0_0 (i : Nat) : BufTy := match i % 128 with
  | 0 => ⟨S16x4096x1024, .f32⟩
  | 1 => ⟨S1024, .f32⟩
  | 2 => ⟨S4x256x256, .f32⟩
  | 3 => ⟨S1024, .f32⟩
  | 4 => ⟨S1024, .f32⟩
  | 5 => ⟨S1024x2816, .f32⟩
  | 6 => ⟨S1024x2816, .f32⟩
  | 7 => ⟨S2816x1024, .f32⟩
  | 8 => ⟨S16x4096x1024, .f32⟩
  | 9 => ⟨S_, .f32⟩
  | 10 => ⟨S16x4096, .f32⟩
  | 11 => ⟨S16x4096x1, .f32⟩
  | 12 => ⟨S_, .f32⟩
  | 13 => ⟨S16x4096x1, .f32⟩
  | 14 => ⟨S16x4096x1, .f32⟩
  | 15 => ⟨S_, .f32⟩
  | 16 => ⟨S16x4096x1, .f32⟩
  | 17 => ⟨S16x4096x1, .f32⟩
  | 18 => ⟨S16x4096x1, .f32⟩
  | 19 => ⟨S16x4096x1024, .f32⟩
  | 20 => ⟨S16x4096x1024, .f32⟩
  | 21 => ⟨S1x1x1024, .f32⟩
  | 22 => ⟨S16x4096x1024, .f32⟩
  | 23 => ⟨S16x4096x1024, .f32⟩
  | 24 => ⟨S_, .f32⟩
  | 25 => ⟨S16x15x1024, .f32⟩
  | 26 => ⟨S16x4111x1024, .f32⟩
  | 27 => ⟨S_, .f32⟩
  | 28 => ⟨S_, .f32⟩
  | 29 => ⟨S16x4111x1024, .f32⟩
  | 30 => ⟨S_, .i32⟩
  | 31 => ⟨S_, .f32⟩
  | 32 => ⟨S16x4112x1024, .f32⟩
  | 33 => ⟨S16x4096x1024, .f32⟩
  | 34 => ⟨S4096, .i32⟩
  | 35 => ⟨S_, .i32⟩
  | 36 => ⟨S4096, .i32⟩
  | 37 => ⟨S4096, .i32⟩
  | 38 => ⟨S16x4096x256, .f32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .f32⟩
  | 46 => ⟨S1x4096x1, .f32⟩
  | 47 => ⟨S16x4096x256, .f32⟩
  | 48 => ⟨S16x4096x256, .f32⟩
  | 49 => ⟨S16x4096x256, .f32⟩
  | 50 => ⟨S16x4096x256, .f32⟩
  | 51 => ⟨S16x4096x256, .f32⟩
  | 52 => ⟨S16x4096x256, .f32⟩
  | 53 => ⟨S1x256x256, .f32⟩
  | 54 => ⟨S256x256, .f32⟩
  | 55 => ⟨S16x4096x256, .f32⟩
  | 56 => ⟨S16x4096x256, .f32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .f32⟩
  | 64 => ⟨S1x4096x1, .f32⟩
  | 65 => ⟨S16x4096x256, .f32⟩
  | 66 => ⟨S16x4096x256, .f32⟩
  | 67 => ⟨S16x4096x256, .f32⟩
  | 68 => ⟨S16x4096x256, .f32⟩
  | 69 => ⟨S16x4096x256, .f32⟩
  | 70 => ⟨S16x4096x256, .f32⟩
  | 71 => ⟨S1x256x256, .f32⟩
  | 72 => ⟨S256x256, .f32⟩
  | 73 => ⟨S16x4096x256, .f32⟩
  | 74 => ⟨S16x4096x256, .f32⟩
  | 75 => ⟨S_, .i32⟩
  | 76 => ⟨S4096, .i32⟩
  | 77 => ⟨S4096, .i32⟩
  | 78 => ⟨S_, .i32⟩
  | 79 => ⟨S4096, .i32⟩
  | 80 => ⟨S4096, .i32⟩
  | 81 => ⟨S4096, .f32⟩
  | 82 => ⟨S1x4096x1, .f32⟩
  | 83 => ⟨S16x4096x256, .f32⟩
  | 84 => ⟨S16x4096x256, .f32⟩
  | 85 => ⟨S16x4096x256, .f32⟩
  | 86 => ⟨S16x4096x256, .f32⟩
  | 87 => ⟨S16x4096x256, .f32⟩
  | 88 => ⟨S16x4096x256, .f32⟩
  | 89 => ⟨S1x256x256, .f32⟩
  | 90 => ⟨S256x256, .f32⟩
  | 91 => ⟨S16x4096x256, .f32⟩
  | 92 => ⟨S16x4096x256, .f32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S4096, .f32⟩
  | 100 => ⟨S1x4096x1, .f32⟩
  | 101 => ⟨S16x4096x256, .f32⟩
  | 102 => ⟨S16x4096x256, .f32⟩
  | 103 => ⟨S16x4096x256, .f32⟩
  | 104 => ⟨S16x4096x256, .f32⟩
  | 105 => ⟨S16x4096x256, .f32⟩
  | 106 => ⟨S16x4096x256, .f32⟩
  | 107 => ⟨S1x256x256, .f32⟩
  | 108 => ⟨S256x256, .f32⟩
  | 109 => ⟨S16x4096x256, .f32⟩
  | 110 => ⟨S16x4096x1024, .f32⟩
  | 111 => ⟨S1x1x1024, .f32⟩
  | 112 => ⟨S16x4096x1024, .f32⟩
  | 113 => ⟨S16x4096x1024, .f32⟩
  | 114 => ⟨S16x15x1024, .f32⟩
  | 115 => ⟨S16x4096x1024, .f32⟩
  | 116 => ⟨S16x4096x1024, .f32⟩
  | 117 => ⟨S_, .f32⟩
  | 118 => ⟨S16x4096, .f32⟩
  | 119 => ⟨S16x4096x1, .f32⟩
  | 120 => ⟨S_, .f32⟩
  | 121 => ⟨S16x4096x1, .f32⟩
  | 122 => ⟨S16x4096x1, .f32⟩
  | 123 => ⟨S_, .f32⟩
  | 124 => ⟨S16x4096x1, .f32⟩
  | 125 => ⟨S16x4096x1, .f32⟩
  | 126 => ⟨S16x4096x1, .f32⟩
  | 127 => ⟨S16x4096x1024, .f32⟩
  | _ => ⟨S16x4096x1024, .f32⟩

abbrev hbmTy0_1 (i : Nat) : BufTy := match i % 128 with
  | 0 => ⟨S16x4096x1024, .f32⟩
  | 1 => ⟨S1x1x1024, .f32⟩
  | 2 => ⟨S16x4096x1024, .f32⟩
  | 3 => ⟨S16x4096x1024, .f32⟩
  | 4 => ⟨S16x4096x2816, .f32⟩
  | 5 => ⟨S16x4096x2816, .f32⟩
  | 6 => ⟨S16x4096x2816, .f32⟩
  | 7 => ⟨S_, .f32⟩
  | 8 => ⟨S16x4096x2816, .f32⟩
  | 9 => ⟨S16x4096x2816, .f32⟩
  | 10 => ⟨S_, .f32⟩
  | 11 => ⟨S16x4096x2816, .f32⟩
  | 12 => ⟨S16x4096x2816, .f32⟩
  | 13 => ⟨S16x4096x2816, .f32⟩
  | 14 => ⟨S16x4096x2816, .f32⟩
  | 15 => ⟨S16x4096x2816, .f32⟩
  | 16 => ⟨S16x4096x1024, .f32⟩
  | 17 => ⟨S16x4096x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_call0_call0_cst : Ref sig .tc := ⟨.hbm, 27, rfl⟩
abbrev main_call0_call0_v0 : Ref sig .tc := ⟨.hbm, 28, rfl⟩
abbrev main_v15 : Ref sig .tc := ⟨.hbm, 29, rfl⟩
abbrev main_c : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_8 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_10 : Ref sig .tc := ⟨.hbm, 93, rfl⟩
abbrev main_v70 : Ref sig .tc := ⟨.hbm, 94, rfl⟩
abbrev main_v71 : Ref sig .tc := ⟨.hbm, 95, rfl⟩
abbrev main_c_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_12 : Ref sig .tc := ⟨.hbm, 117, rfl⟩
abbrev main_v92 : Ref sig .tc := ⟨.hbm, 118, rfl⟩
abbrev main_v93 : Ref sig .tc := ⟨.hbm, 119, rfl⟩
abbrev main_cst_13 : Ref sig .tc := ⟨.hbm, 120, rfl⟩
abbrev main_v94 : Ref sig .tc := ⟨.hbm, 121, rfl⟩
abbrev main_v95 : Ref sig .tc := ⟨.hbm, 122, rfl⟩
abbrev main_cst_14 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_call2_v0 : Ref sig .tc := ⟨.hbm, 133, rfl⟩
abbrev main_call2_v1 : Ref sig .tc := ⟨.hbm, 134, rfl⟩
abbrev main_call2_cst : Ref sig .tc := ⟨.hbm, 135, rfl⟩
abbrev main_call2_v2 : Ref sig .tc := ⟨.hbm, 136, rfl⟩
abbrev main_call2_v3 : Ref sig .tc := ⟨.hbm, 137, rfl⟩
abbrev main_call2_cst_0 : Ref sig .tc := ⟨.hbm, 138, rfl⟩
abbrev main_call2_v4 : Ref sig .tc := ⟨.hbm, 139, rfl⟩
abbrev main_call2_v5 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]
-- ==== Proof.Run.lean ====
/-
  A small calculus for runs of a kernel body over a fixed family of vector-memory buffers.

  `Refs` names the thirteen buffers the attention kernel works on (six staged operands and results, seven scratch
  buffers), `St` their contents, `Holds` says that a core owns every one of them at given contents. `Runs p st a st'`
  says that the program `p`, started with the buffers at `st`, returns `a` with the buffers at `st'`. The rules below
  step over a return, a sequence, a load and a store of each buffer, a conditional and a counted loop.
-/
module

public import Idealize.ShloMosaic.Lib.Pipeline.FrameBody
public import Idealize.ShloMosaic.Lib.Tactic

@[expose] public section

noncomputable section

namespace Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A block of queries, or of results: 512 rows of a pair of heads. -/
abbrev SQ : Shape := ⟨4, ![1, 1, 512, 128]⟩
/-- The keys of a pair of heads. -/
abbrev SK : Shape := ⟨4, ![1, 1, 4096, 128]⟩
/-- The values of a pair of heads, one row per feature. -/
abbrev SV : Shape := ⟨3, ![1, 128, 4096]⟩
/-- The gates at the queries. -/
abbrev SDq : Shape := ⟨4, ![1, 1, 8, 512]⟩
/-- The gates at the keys. -/
abbrev SDk : Shape := ⟨4, ![1, 1, 8, 4096]⟩
/-- The queries of each head alone. -/
abbrev SQh : Shape := ⟨3, ![2, 512, 128]⟩
/-- One square of scores, or weights, per head. -/
abbrev SU : Shape := ⟨3, ![2, 512, 512]⟩
/-- One row of statistics per head. -/
abbrev SM : Shape := ⟨3, ![2, 8, 512]⟩
/-- The weighted sums of the values, both heads. -/
abbrev SA : Shape := ⟨2, ![128, 512]⟩

/-- The buffers the body works on. -/
structure Refs (sig : RefSig) where
  q : Memref sig .tc .vmem SQ .bf16
  hq : q.IsWhole
  k : Memref sig .tc .vmem SK .bf16
  hk : k.IsWhole
  v : Memref sig .tc .vmem SV .bf16
  hv : v.IsWhole
  dq : Memref sig .tc .vmem SDq .f32
  hdq : dq.IsWhole
  dk : Memref sig .tc .vmem SDk .f32
  hdk : dk.IsWhole
  o : Memref sig .tc .vmem SQ .bf16
  ho : o.IsWhole
  qh : Memref sig .tc .vmem SQh .bf16
  hqh : qh.IsWhole
  u : Memref sig .tc .vmem SU .f32
  hu : u.IsWhole
  p : Memref sig .tc .vmem SU .bf16
  hp : p.IsWhole
  mb : Memref sig .tc .vmem SM .f32
  hmb : mb.IsWhole
  m : Memref sig .tc .vmem SM .f32
  hm : m.IsWhole
  l : Memref sig .tc .vmem SM .f32
  hl : l.IsWhole
  acc : Memref sig .tc .vmem SA .f32
  hacc : acc.IsWhole

variable {nD : Nat} {τ : Topo} {sig : RefSig} {F : FTy → Type}

/-- The contents of the buffers. -/
structure St (F : FTy → Type) where
  q : SQ.Idx → Elt F .bf16
  k : SK.Idx → Elt F .bf16
  v : SV.Idx → Elt F .bf16
  dq : SDq.Idx → Elt F .f32
  dk : SDk.Idx → Elt F .f32
  o : SQ.Idx → Elt F .bf16
  qh : SQh.Idx → Elt F .bf16
  u : SU.Idx → Elt F .f32
  p : SU.Idx → Elt F .bf16
  mb : SM.Idx → Elt F .f32
  m : SM.Idx → Elt F .f32
  l : SM.Idx → Elt F .f32
  acc : SA.Idx → Elt F .f32

section Rules

variable {Λ₀ : Idealize.SL.Sem.Labels} {Val : EltTy → Type}
variable (defs₀ : Defs nD τ sig Val Λ₀) (c : Dev nD)

local notation "𝕄" => MT nD τ sig Unit Val ℕ (UR sig nD τ) ℕ

/-- After an unmasked write through a rectangle of a view, the view reads the payload laid over what it read before. -/
theorem read_write_overlay {κ : Kind} {sp : Space} {s : Shape} {e : EltTy} (v : View sig κ sp s e) (r : Rect s)
    (f : v.ty.Contents Val) (w : r.shape.Idx → Val e) :
    v.read Val ((v.slice r).write Val f w Finset.univ) = r.overlay (v.read Val f) w := by
  funext y
  by_cases hy : y ∈ r.set
  · obtain ⟨x, rfl⟩ := r.exists_idx_of_mem hy
    exact (v.read_writes_cons_emb f r w [] x).trans (Rect.overlay_emb r _ w x).symm
  · rw [Rect.overlay_of_not_mem r _ w hy]
    exact View.read_slice_write_of_not_mem r _ _ _ (by rw [Rect.map_emb_univ]; exact hy)

/-- A load from an owned buffer reads its contents at the rectangle's indices. -/
theorem owns_load {s : Shape} {e : EltTy} {m : Memref sig .tc .vmem s e} {r : LoadRect s} {hl : m.view.LoadsAt r} {α : Type}
    {X : s.Idx → Val e} {k : (r.shape.Idx → Val e) → Prog (TpuEff nD τ sig Val Λ₀ .tc) α} {Q : α → sProp 𝕄} :
    (owns (c : Thread nD τ) m fullShare X : sProp 𝕄)
      ⊢ iprop((owns (c : Thread nD τ) m fullShare X -∗ wp frame (wpE defs₀ Variants.none (c : Thread nD τ) none) Set.univ (k (fun x => X (r.idx x))) Q)
        -∗ wp frame (wpE defs₀ Variants.none (c : Thread nD τ) none) Set.univ (.op (.load m r hl) k) Q) := by
  unfold owns
  iintro ⟨%f, %hf, H⟩ K
  subst hf
  iapply (wp_load Variants.none (c : Thread nD τ) none Set.univ (m := m) (View.setOn_subset_set _ _)) $$ H
  iintro H
  iapply K
  iexists f; isplitr; · ipureintro; rfl
  iexact H

/-- A store into an owned buffer lays its payload over the contents. -/
theorem owns_store {s : Shape} {e : EltTy} {m : Memref sig .tc .vmem s e} {r : Rect s} {w : r.shape.Idx → Val e}
    {hx : (m.access r).Stores Finset.univ} {hm : Finset.univ = Finset.univ ∨ ∀ a, r.stride a = 1} {α : Type}
    {X : s.Idx → Val e} {k : PUnit → Prog (TpuEff nD τ sig Val Λ₀ .tc) α} {Q : α → sProp 𝕄} :
    (owns (c : Thread nD τ) m fullShare X : sProp 𝕄)
      ⊢ iprop((owns (c : Thread nD τ) m fullShare (r.overlay X w) -∗ wp frame (wpE defs₀ Variants.none (c : Thread nD τ) none) Set.univ (k ⟨⟩) Q)
        -∗ wp frame (wpE defs₀ Variants.none (c : Thread nD τ) none) Set.univ (.op (.store m r w Finset.univ hx hm) k) Q) := by
  unfold owns
  iintro ⟨%f, %hf, H⟩ K
  subst hf
  iapply (wp_store Variants.none (c : Thread nD τ) none Set.univ (m := m) (r := r) (Mk := Finset.univ) (Memref.setOn_access_subset _ _ _)) $$ H
  iintro H
  iapply K
  iexists _; isplitr
  · ipureintro; exact read_write_overlay m.view r f w
  iexact H

end Rules

section Calculus

variable {Λ₀ : Idealize.SL.Sem.Labels}
variable (defs₀ : Defs nD τ sig (Elt F) Λ₀) (R : Refs sig) (c : Dev nD)

local notation "𝕄" => MT nD τ sig Unit (Elt F) ℕ (UR sig nD τ) ℕ

/-- Core `c` owns every buffer at the contents `st`. -/
def Holds (st : St F) : sProp 𝕄 :=
  iprop(owns (c : Thread nD τ) R.q fullShare st.q ∗ owns (c : Thread nD τ) R.k fullShare st.k ∗ owns (c : Thread nD τ) R.v fullShare st.v
    ∗ owns (c : Thread nD τ) R.dq fullShare st.dq ∗ owns (c : Thread nD τ) R.dk fullShare st.dk ∗ owns (c : Thread nD τ) R.o fullShare st.o
    ∗ owns (c : Thread nD τ) R.qh fullShare st.qh ∗ owns (c : Thread nD τ) R.u fullShare st.u ∗ owns (c : Thread nD τ) R.p fullShare st.p
    ∗ owns (c : Thread nD τ) R.mb fullShare st.mb ∗ owns (c : Thread nD τ) R.m fullShare st.m ∗ owns (c : Thread nD τ) R.l fullShare st.l
    ∗ owns (c : Thread nD τ) R.acc fullShare st.acc)

/-- Started with the buffers at `st`, the program ends with a result and contents that `Φ` relates. -/
def Ends {α : Type} (p : Prog (TpuEff nD τ sig (Elt F) Λ₀ .tc) α) (st : St F) (Φ : α → St F → Prop) : Prop :=
  ∀ Q : α → sProp 𝕄, iprop(Holds R c st ∗ (∀ a st', ⌜Φ a st'⌝ -∗ Holds R c st' -∗ Q a))
    ⊢ wp frame (wpE defs₀ Variants.none (c : Thread nD τ) none) Set.univ p Q

/-- Started with the buffers at `st`, the program returns `a` with the buffers at `st'`. -/
def Runs {α : Type} (p : Prog (TpuEff nD τ sig (Elt F) Λ₀ .tc) α) (st : St F) (a : α) (st' : St F) : Prop :=
  ∀ Q : α → sProp 𝕄, iprop(Holds R c st ∗ (Holds R c st' -∗ Q a))
    ⊢ wp frame (wpE defs₀ Variants.none (c : Thread nD τ) none) Set.univ p Q

variable {defs₀ R c}
variable {α β : Type}

/-- A run is an ending in which the result and the contents are known. -/
theorem Runs.ends {p : Prog (TpuEff nD τ sig (Elt F) Λ₀ .tc) α} {st st' : St F} {a : α} {Φ : α → St F → Prop}
    (h : Runs defs₀ R c p st a st') (hΦ : Φ a st') : Ends defs₀ R c p st Φ := by
  intro Q
  refine .trans ?_ (h Q)
  iintro ⟨H, K⟩
  isplitl [H]; · iexact H
  iintro H
  iapply K $$ %a %st' %hΦ H

/-- A return leaves the buffers as they are. -/
theorem Runs.ret (a : α) (st : St F) : Runs defs₀ R c (pure a) st a st := by
  intro Q
  refine .trans ?_ (le_wp_ret _ _ _ a Q)
  iintro ⟨H, K⟩
  iapply K; iexact H

/-- One program after another. -/
theorem Runs.seq {p : Prog (TpuEff nD τ sig (Elt F) Λ₀ .tc) α} {k : α → Prog (TpuEff nD τ sig (Elt F) Λ₀ .tc) β}
    {st st₁ st₂ : St F} {a : α} {b : β} (h : Runs defs₀ R c p st a st₁) (hk : Runs defs₀ R c (k a) st₁ b st₂) :
    Runs defs₀ R c (p >>= k) st b st₂ := by
  intro Q
  rw [wp_bind]
  refine .trans ?_ (h _)
  iintro ⟨H, K⟩
  isplitl [H]; · iexact H
  iintro H
  iapply (hk Q)
  isplitl [H]; · iexact H
  iexact K

/-- A load from a buffer that can be taken out of the family and put back. -/
theorem Runs.load_of {s : Shape} {e : EltTy} {m : Memref sig .tc .vmem s e} {r : LoadRect s} {hl : m.view.LoadsAt r}
    {X : s.Idx → Elt F e} {k : (r.shape.Idx → Elt F e) → Prog (TpuEff nD τ sig (Elt F) Λ₀ .tc) β} {st st' : St F} {b : β}
    (ho : Holds R c st ⊢ (iprop(owns (c : Thread nD τ) m fullShare X ∗ (owns (c : Thread nD τ) m fullShare X -∗ Holds R c st)) : sProp 𝕄))
    (hk : Runs defs₀ R c (k fun x => X (r.idx x)) st b st') :
    Runs defs₀ R c (Prog.lift (.load m r hl) >>= k) st b st' := by
  intro Q
  iintro ⟨H, K⟩
  ihave H2 := ho $$ H
  icases H2 with ⟨Ho, Hb⟩
  iapply (owns_load defs₀ c (k := k)) $$ Ho
  iintro Ho
  iapply (hk Q)
  isplitl [Ho Hb]
  · iapply Hb; iexact Ho
  iexact K

/-- A store into a buffer that can be taken out of the family and put back at the new contents. -/
theorem Runs.store_of {s : Shape} {e : EltTy} {m : Memref sig .tc .vmem s e} {r : Rect s} {w : r.shape.Idx → Elt F e}
    {hx : (m.access r).Stores Finset.univ} {hm : Finset.univ = Finset.univ ∨ ∀ a, r.stride a = 1}
    {X : s.Idx → Elt F e} {k : PUnit → Prog (TpuEff nD τ sig (Elt F) Λ₀ .tc) β} {st st₁ st' : St F} {b : β}
    (ho : Holds R c st ⊢ (iprop(owns (c : Thread nD τ) m fullShare X
      ∗ (owns (c : Thread nD τ) m fullShare (r.overlay X w) -∗ Holds R c st₁)) : sProp 𝕄))
    (hk : Runs defs₀ R c (k ⟨⟩) st₁ b st') :
    Runs defs₀ R c (Prog.lift (.store m r w Finset.univ hx hm) >>= k) st b st' := by
  intro Q
  iintro ⟨H, K⟩
  ihave H2 := ho $$ H
  icases H2 with ⟨Ho, Hb⟩
  iapply (owns_store defs₀ c (k := k)) $$ Ho
  iintro Ho
  iapply (hk Q)
  isplitl [Ho Hb]
  · iapply Hb; iexact Ho
  iexact K

section Buffers

variable {q : SQ.Idx → Elt F .bf16} {k : SK.Idx → Elt F .bf16} {v : SV.Idx → Elt F .bf16} {dq : SDq.Idx → Elt F .f32} {dk : SDk.Idx → Elt F .f32} {o : SQ.Idx → Elt F .bf16} {qh : SQh.Idx → Elt F .bf16}
variable {u : SU.Idx → Elt F .f32} {p : SU.Idx → Elt F .bf16} {mb : SM.Idx → Elt F .f32} {m : SM.Idx → Elt F .f32} {l : SM.Idx → Elt F .f32} {acc : SA.Idx → Elt F .f32}
variable {st' : St F} {b : β}

/-- A load from the buffer of the queries. -/
theorem Runs.load_q {r : LoadRect SQ} {hl : R.q.view.LoadsAt r} {kk : (r.shape.Idx → Elt F .bf16) → Prog (TpuEff nD τ sig (Elt F) Λ₀ .tc) β}
    (h : Runs defs₀ R c (kk fun x => q (r.idx x)) ⟨q, k, v, dq, dk, o, qh, u, p, mb, m, l, acc⟩ b st') :
    Runs defs₀ R c (Prog.lift (.load R.q r hl) >>= kk) ⟨q, k, v, dq, dk, o, qh, u, p, mb, m, l, acc⟩ b st' := by
  refine Runs.load_of (X := q) ?_ h
  unfold Holds
  iintro ⟨Hq, Hk, Hv, Hdq, Hdk, Ho, Hqh, Hu, Hp, Hmb, Hm, Hl, Hacc⟩
  isplitl [Hq]; · iexact Hq
  iintro Hq
  isplitl [Hq]; · iexact Hq
  iframe

/-- A load from the buffer of the keys. -/
theorem Runs.load_k {r : LoadRect SK} {hl : R.k.view.LoadsAt r} {kk : (r.shape.Idx → Elt F .bf16) → Prog (TpuEff nD τ sig (Elt F) Λ₀ .tc) β}
    (h : Runs defs₀ R c (kk fun x => k (r.idx x)) ⟨q, k, v, dq, dk, o, qh, u, p, mb, m, l, acc⟩ b st') :
    Runs defs₀ R c (Prog.lift (.load R.k r hl) >>= kk) ⟨q, k, v, dq, dk, o, qh, u, p, mb, m, l, acc⟩ b st' := by
  refine Runs.load_of (X := k) ?_ h
  unfold Holds
  iintro ⟨Hq, Hk, Hv, Hdq, Hdk, Ho, Hqh, Hu, Hp, Hmb, Hm, Hl, Hacc⟩
  isplitl [Hk]; · iexact Hk
  iintro Hk
  isplitl [Hq]; · iexact Hq
  iframe

/-- A load from the buffer of the values. -/
theorem Runs.load_v {r : LoadRect SV} {hl : R.v.view.LoadsAt r} {kk : (r.shape.Idx → Elt F .bf16) → Prog (TpuEff nD τ sig (Elt F) Λ₀ .tc) β}
    (h : Runs defs₀ R c (kk fun x => v (r.idx x)) ⟨q, k, v, dq, dk, o, qh, u, p, mb, m, l, acc⟩ b st') :
    Runs defs₀ R c (Prog.lift (.load R.v r hl) >>= kk) ⟨q, k, v, dq, dk, o, qh, u, p, mb, m, l, acc⟩ b st' := by
  refine Runs.load_of (X := v) ?_ h
  unfold Holds
  iintro ⟨Hq, Hk, Hv, Hdq, Hdk, Ho, Hqh, Hu, Hp, Hmb, Hm, Hl, Hacc⟩
  isplitl [Hv]; · iexact Hv
  iintro Hv
  isplitl [Hq]; · iexact Hq
  iframe

/-- A load from the buffer of the gates at the queries. -/
theorem Runs.load_dq {r : LoadRect SDq} {hl : R.dq.view.LoadsAt r} {kk : (r.shape.Idx → Elt F .f32) → Prog (TpuEff nD τ sig (Elt F) Λ₀ .tc) β}
    (h : Runs defs₀ R c (kk fun x => dq (r.idx x)) ⟨q, k, v, dq, dk, o, qh, u, p, mb, m, l, acc⟩ b st') :
    Runs defs₀ R c (Prog.lift (.load R.dq r hl) >>= kk) ⟨q, k, v, dq, dk, o, qh, u, p, mb, m, l, acc⟩ b st' := by
  refine Runs.load_of (X := dq) ?_ h
  unfold Holds
  iintro ⟨Hq, Hk, Hv, Hdq, Hdk, Ho, Hqh, Hu, Hp, Hmb, Hm, Hl, Hacc⟩
  isplitl [Hdq]; · iexact Hdq
  iintro Hdq
  isplitl [Hq]; · iexact Hq
  iframe

/-- A load from the buffer of the gates at the keys. -/
theorem Runs.load_dk {r : LoadRect SDk} {hl : R.dk.view.LoadsAt r} {kk : (r.shape.Idx → Elt F .f32) → Prog (TpuEff nD τ sig (Elt F) Λ₀ .tc) β}
    (h : Runs defs₀ R c (kk fun x => dk (r.idx x)) ⟨q, k, v, dq, dk, o, qh, u, p, mb, m, l, acc⟩ b st') :
    Runs defs₀ R c (Prog.lift (.load R.dk r hl) >>= kk) ⟨q, k, v, dq, dk, o, qh, u, p, mb, m, l, acc⟩ b st' := by
  refine Runs.load_of (X := dk) ?_ h
  unfold Holds
  iintro ⟨Hq, Hk, Hv, Hdq, Hdk, Ho, Hqh, Hu, Hp, Hmb, Hm, Hl, Hacc⟩
  isplitl [Hdk]; · iexact Hdk
  iintro Hdk
  isplitl [Hq]; · iexact Hq
  iframe

/-- A load from the buffer of the result. -/
theorem Runs.load_o {r : LoadRect SQ} {hl : R.o.view.LoadsAt r} {kk : (r.shape.Idx → Elt F .bf16) → Prog (TpuEff nD τ sig (Elt F) Λ₀ .tc) β}
    (h : Runs defs₀ R c (kk fun x => o (r.idx x)) ⟨q, k, v, dq, dk, o, qh, u, p, mb, m, l, acc⟩ b st') :
    Runs defs₀ R c (Prog.lift (.load R.o r hl) >>= kk) ⟨q, k, v, dq, dk, o, qh, u, p, mb, m, l, acc⟩ b st' := by
  refine Runs.load_of (X := o) ?_ h
  unfold Holds
  iintro ⟨Hq, Hk, Hv, Hdq, Hdk, Ho, Hqh, Hu, Hp, Hmb, Hm, Hl, Hacc⟩
  isplitl [Ho]; · iexact Ho
  iintro Ho
  isplitl [Hq]; · iexact Hq
  iframe

/-- A load from the buffer of the queries of one head. -/
theorem Runs.load_qh {r : LoadRect SQh} {hl : R.qh.view.LoadsAt r} {kk : (r.shape.Idx → Elt F .bf16) → Prog (TpuEff nD τ sig (Elt F) Λ₀ .tc) β}
    (h : Runs defs₀ R c (kk fun x => qh (r.idx x)) ⟨q, k, v, dq, dk, o, qh, u, p, mb, m, l, acc⟩ b st') :
    Runs defs₀ R c (Prog.lift (.load R.qh r hl) >>= kk) ⟨q, k, v, dq, dk, o, qh, u, p, mb, m, l, acc⟩ b st' := by
  refine Runs.load_of (X := qh) ?_ h
  unfold Holds
  iintro ⟨Hq, Hk, Hv, Hdq, Hdk, Ho, Hqh, Hu, Hp, Hmb, Hm, Hl, Hacc⟩
  isplitl [Hqh]; · iexact Hqh
  iintro Hqh
  isplitl [Hq]; · iexact Hq
  iframe

/-- A load from the buffer of the scores. -/
theorem Runs.load_u {r : LoadRect SU} {hl : R.u.view.LoadsAt r} {kk : (r.shape.Idx → Elt F .f32) → Prog (TpuEff nD τ sig (Elt F) Λ₀ .tc) β}
    (h : Runs defs₀ R c (kk fun x => u (r.idx x)) ⟨q, k, v, dq, dk, o, qh, u, p, mb, m, l, acc⟩ b st') :
    Runs defs₀ R c (Prog.lift (.load R.u r hl) >>= kk) ⟨q, k, v, dq, dk, o, qh, u, p, mb, m, l, acc⟩ b st' := by
  refine Runs.load_of (X := u) ?_ h
  unfold Holds
  iintro ⟨Hq, Hk, Hv, Hdq, Hdk, Ho, Hqh, Hu, Hp, Hmb, Hm, Hl, Hacc⟩
  isplitl [Hu]; · iexact Hu
  iintro Hu
  isplitl [Hq]; · iexact Hq
  iframe

/-- A load from the buffer of the weights. -/
theorem Runs.load_p {r : LoadRect SU} {hl : R.p.view.LoadsAt r} {kk : (r.shape.Idx → Elt F .bf16) → Prog (TpuEff nD τ sig (Elt F) Λ₀ .tc) β}
    (h : Runs defs₀ R c (kk fun x => p (r.idx x)) ⟨q, k, v, dq, dk, o, qh, u, p, mb, m, l, acc⟩ b st') :
    Runs defs₀ R c (Prog.lift (.load R.p r hl) >>= kk) ⟨q, k, v, dq, dk, o, qh, u, p, mb, m, l, acc⟩ b st' := by
  refine Runs.load_of (X := p) ?_ h
  unfold Holds
  iintro ⟨Hq, Hk, Hv, Hdq, Hdk, Ho, Hqh, Hu, Hp, Hmb, Hm, Hl, Hacc⟩
  isplitl [Hp]; · iexact Hp
  iintro Hp
  isplitl [Hq]; · iexact Hq
  iframe

/-- A load from the buffer of the maxima of a block. -/
theorem Runs.load_mb {r : LoadRect SM} {hl : R.mb.view.LoadsAt r} {kk : (r.shape.Idx → Elt F .f32) → Prog (TpuEff nD τ sig (Elt F) Λ₀ .tc) β}
    (h : Runs defs₀ R c (kk fun x => mb (r.idx x)) ⟨q, k, v, dq, dk, o, qh, u, p, mb, m, l, acc⟩ b st') :
    Runs defs₀ R c (Prog.lift (.load R.mb r hl) >>= kk) ⟨q, k, v, dq, dk, o, qh, u, p, mb, m, l, acc⟩ b st' := by
  refine Runs.load_of (X := mb) ?_ h
  unfold Holds
  iintro ⟨Hq, Hk, Hv, Hdq, Hdk, Ho, Hqh, Hu, Hp, Hmb, Hm, Hl, Hacc⟩
  isplitl [Hmb]; · iexact Hmb
  iintro Hmb
  isplitl [Hq]; · iexact Hq
  iframe

/-- A load from the buffer of the running maxima. -/
theorem Runs.load_m {r : LoadRect SM} {hl : R.m.view.LoadsAt r} {kk : (r.shape.Idx → Elt F .f32) → Prog (TpuEff nD τ sig (Elt F) Λ₀ .tc) β}
    (h : Runs defs₀ R c (kk fun x => m (r.idx x)) ⟨q, k, v, dq, dk, o, qh, u, p, mb, m, l, acc⟩ b st') :
    Runs defs₀ R c (Prog.lift (.load R.m r hl) >>= kk) ⟨q, k, v, dq, dk, o, qh, u, p, mb, m, l, acc⟩ b st' := by
  refine Runs.load_of (X := m) ?_ h
  unfold Holds
  iintro ⟨Hq, Hk, Hv, Hdq, Hdk, Ho, Hqh, Hu, Hp, Hmb, Hm, Hl, Hacc⟩
  isplitl [Hm]; · iexact Hm
  iintro Hm
  isplitl [Hq]; · iexact Hq
  iframe

/-- A load from the buffer of the running sums. -/
theorem Runs.load_l {r : LoadRect SM} {hl : R.l.view.LoadsAt r} {kk : (r.shape.Idx → Elt F .f32) → Prog (TpuEff nD τ sig (Elt F) Λ₀ .tc) β}
    (h : Runs defs₀ R c (kk fun x => l (r.idx x)) ⟨q, k, v, dq, dk, o, qh, u, p, mb, m, l, acc⟩ b st') :
    Runs defs₀ R c (Prog.lift (.load R.l r hl) >>= kk) ⟨q, k, v, dq, dk, o, qh, u, p, mb, m, l, acc⟩ b st' := by
  refine Runs.load_of (X := l) ?_ h
  unfold Holds
  iintro ⟨Hq, Hk, Hv, Hdq, Hdk, Ho, Hqh, Hu, Hp, Hmb, Hm, Hl, Hacc⟩
  isplitl [Hl]; · iexact Hl
  iintro Hl
  isplitl [Hq]; · iexact Hq
  iframe

/-- A load from the buffer of the weighted sums. -/
theorem Runs.load_acc {r : LoadRect SA} {hl : R.acc.view.LoadsAt r} {kk : (r.shape.Idx → Elt F .f32) → Prog (TpuEff nD τ sig (Elt F) Λ₀ .tc) β}
    (h : Runs defs₀ R c (kk fun x => acc (r.idx x)) ⟨q, k, v, dq, dk, o, qh, u, p, mb, m, l, acc⟩ b st') :
    Runs defs₀ R c (Prog.lift (.load R.acc r hl) >>= kk) ⟨q, k, v, dq, dk, o, qh, u, p, mb, m, l, acc⟩ b st' := by
  refine Runs.load_of (X := acc) ?_ h
  unfold Holds
  iintro ⟨Hq, Hk, Hv, Hdq, Hdk, Ho, Hqh, Hu, Hp, Hmb, Hm, Hl, Hacc⟩
  isplitl [Hacc]; · iexact Hacc
  iintro Hacc
  isplitl [Hq]; · iexact Hq
  iframe

/-- A store into the buffer of the result. -/
theorem Runs.store_o {r : Rect SQ} {w : r.shape.Idx → Elt F .bf16} {hx : (R.o.access r).Stores Finset.univ}
    {hm : Finset.univ = Finset.univ ∨ ∀ a, r.stride a = 1} {kk : PUnit → Prog (TpuEff nD τ sig (Elt F) Λ₀ .tc) β}
    (h : Runs defs₀ R c (kk ⟨⟩) ⟨q, k, v, dq, dk, r.overlay o w, qh, u, p, mb, m, l, acc⟩ b st') :
    Runs defs₀ R c (Prog.lift (.store R.o r w Finset.univ hx hm) >>= kk) ⟨q, k, v, dq, dk, o, qh, u, p, mb, m, l, acc⟩ b st' := by
  refine Runs.store_of (X := o) ?_ h
  unfold Holds
  iintro ⟨Hq, Hk, Hv, Hdq, Hdk, Ho, Hqh, Hu, Hp, Hmb, Hm, Hl, Hacc⟩
  isplitl [Ho]; · iexact Ho
  iintro Ho
  iframe

/-- A store into the buffer of the queries of one head. -/
theorem Runs.store_qh {r : Rect SQh} {w : r.shape.Idx → Elt F .bf16} {hx : (R.qh.access r).Stores Finset.univ}
    {hm : Finset.univ = Finset.univ ∨ ∀ a, r.stride a = 1} {kk : PUnit → Prog (TpuEff nD τ sig (Elt F) Λ₀ .tc) β}
    (h : Runs defs₀ R c (kk ⟨⟩) ⟨q, k, v, dq, dk, o, r.overlay qh w, u, p, mb, m, l, acc⟩ b st') :
    Runs defs₀ R c (Prog.lift (.store R.qh r w Finset.univ hx hm) >>= kk) ⟨q, k, v, dq, dk, o, qh, u, p, mb, m, l, acc⟩ b st' := by
  refine Runs.store_of (X := qh) ?_ h
  unfold Holds
  iintro ⟨Hq, Hk, Hv, Hdq, Hdk, Ho, Hqh, Hu, Hp, Hmb, Hm, Hl, Hacc⟩
  isplitl [Hqh]; · iexact Hqh
  iintro Hqh
  iframe

/-- A store into the buffer of the scores. -/
theorem Runs.store_u {r : Rect SU} {w : r.shape.Idx → Elt F .f32} {hx : (R.u.access r).Stores Finset.univ}
    {hm : Finset.univ = Finset.univ ∨ ∀ a, r.stride a = 1} {kk : PUnit → Prog (TpuEff nD τ sig (Elt F) Λ₀ .tc) β}
    (h : Runs defs₀ R c (kk ⟨⟩) ⟨q, k, v, dq, dk, o, qh, r.overlay u w, p, mb, m, l, acc⟩ b st') :
    Runs defs₀ R c (Prog.lift (.store R.u r w Finset.univ hx hm) >>= kk) ⟨q, k, v, dq, dk, o, qh, u, p, mb, m, l, acc⟩ b st' := by
  refine Runs.store_of (X := u) ?_ h
  unfold Holds
  iintro ⟨Hq, Hk, Hv, Hdq, Hdk, Ho, Hqh, Hu, Hp, Hmb, Hm, Hl, Hacc⟩
  isplitl [Hu]; · iexact Hu
  iintro Hu
  iframe

/-- A store into the buffer of the weights. -/
theorem Runs.store_p {r : Rect SU} {w : r.shape.Idx → Elt F .bf16} {hx : (R.p.access r).Stores Finset.univ}
    {hm : Finset.univ = Finset.univ ∨ ∀ a, r.stride a = 1} {kk : PUnit → Prog (TpuEff nD τ sig (Elt F) Λ₀ .tc) β}
    (h : Runs defs₀ R c (kk ⟨⟩) ⟨q, k, v, dq, dk, o, qh, u, r.overlay p w, mb, m, l, acc⟩ b st') :
    Runs defs₀ R c (Prog.lift (.store R.p r w Finset.univ hx hm) >>= kk) ⟨q, k, v, dq, dk, o, qh, u, p, mb, m, l, acc⟩ b st' := by
  refine Runs.store_of (X := p) ?_ h
  unfold Holds
  iintro ⟨Hq, Hk, Hv, Hdq, Hdk, Ho, Hqh, Hu, Hp, Hmb, Hm, Hl, Hacc⟩
  isplitl [Hp]; · iexact Hp
  iintro Hp
  iframe

/-- A store into the buffer of the maxima of a block. -/
theorem Runs.store_mb {r : Rect SM} {w : r.shape.Idx → Elt F .f32} {hx : (R.mb.access r).Stores Finset.univ}
    {hm : Finset.univ = Finset.univ ∨ ∀ a, r.stride a = 1} {kk : PUnit → Prog (TpuEff nD τ sig (Elt F) Λ₀ .tc) β}
    (h : Runs defs₀ R c (kk ⟨⟩) ⟨q, k, v, dq, dk, o, qh, u, p, r.overlay mb w, m, l, acc⟩ b st') :
    Runs defs₀ R c (Prog.lift (.store R.mb r w Finset.univ hx hm) >>= kk) ⟨q, k, v, dq, dk, o, qh, u, p, mb, m, l, acc⟩ b st' := by
  refine Runs.store_of (X := mb) ?_ h
  unfold Holds
  iintro ⟨Hq, Hk, Hv, Hdq, Hdk, Ho, Hqh, Hu, Hp, Hmb, Hm, Hl, Hacc⟩
  isplitl [Hmb]; · iexact Hmb
  iintro Hmb
  iframe

/-- A store into the buffer of the running maxima. -/
theorem Runs.store_m {r : Rect SM} {w : r.shape.Idx → Elt F .f32} {hx : (R.m.access r).Stores Finset.univ}
    {hm : Finset.univ = Finset.univ ∨ ∀ a, r.stride a = 1} {kk : PUnit → Prog (TpuEff nD τ sig (Elt F) Λ₀ .tc) β}
    (h : Runs defs₀ R c (kk ⟨⟩) ⟨q, k, v, dq, dk, o, qh, u, p, mb, r.overlay m w, l, acc⟩ b st') :
    Runs defs₀ R c (Prog.lift (.store R.m r w Finset.univ hx hm) >>= kk) ⟨q, k, v, dq, dk, o, qh, u, p, mb, m, l, acc⟩ b st' := by
  refine Runs.store_of (X := m) ?_ h
  unfold Holds
  iintro ⟨Hq, Hk, Hv, Hdq, Hdk, Ho, Hqh, Hu, Hp, Hmb, Hm, Hl, Hacc⟩
  isplitl [Hm]; · iexact Hm
  iintro Hm
  iframe

/-- A store into the buffer of the running sums. -/
theorem Runs.store_l {r : Rect SM} {w : r.shape.Idx → Elt F .f32} {hx : (R.l.access r).Stores Finset.univ}
    {hm : Finset.univ = Finset.univ ∨ ∀ a, r.stride a = 1} {kk : PUnit → Prog (TpuEff nD τ sig (Elt F) Λ₀ .tc) β}
    (h : Runs defs₀ R c (kk ⟨⟩) ⟨q, k, v, dq, dk, o, qh, u, p, mb, m, r.overlay l w, acc⟩ b st') :
    Runs defs₀ R c (Prog.lift (.store R.l r w Finset.univ hx hm) >>= kk) ⟨q, k, v, dq, dk, o, qh, u, p, mb, m, l, acc⟩ b st' := by
  refine Runs.store_of (X := l) ?_ h
  unfold Holds
  iintro ⟨Hq, Hk, Hv, Hdq, Hdk, Ho, Hqh, Hu, Hp, Hmb, Hm, Hl, Hacc⟩
  isplitl [Hl]; · iexact Hl
  iintro Hl
  iframe

/-- A store into the buffer of the weighted sums. -/
theorem Runs.store_acc {r : Rect SA} {w : r.shape.Idx → Elt F .f32} {hx : (R.acc.access r).Stores Finset.univ}
    {hm : Finset.univ = Finset.univ ∨ ∀ a, r.stride a = 1} {kk : PUnit → Prog (TpuEff nD τ sig (Elt F) Λ₀ .tc) β}
    (h : Runs defs₀ R c (kk ⟨⟩) ⟨q, k, v, dq, dk, o, qh, u, p, mb, m, l, r.overlay acc w⟩ b st') :
    Runs defs₀ R c (Prog.lift (.store R.acc r w Finset.univ hx hm) >>= kk) ⟨q, k, v, dq, dk, o, qh, u, p, mb, m, l, acc⟩ b st' := by
  refine Runs.store_of (X := acc) ?_ h
  unfold Holds
  iintro ⟨Hq, Hk, Hv, Hdq, Hdk, Ho, Hqh, Hu, Hp, Hmb, Hm, Hl, Hacc⟩
  isplitl [Hacc]; · iexact Hacc
  iintro Hacc
  iframe

end Buffers

section Keeping

/-- Core `c` owns every buffer, whatever it holds. -/
def Held (defs₀ : Defs nD τ sig (Elt F) Λ₀) (R : Refs sig) (c : Dev nD) : sProp 𝕄 := iprop(∃ st : St F, Holds R c st)

variable (defs₀ R c) in
/-- The program runs to its end on the buffers, whatever they hold, and keeps them. -/
def Keeps {α : Type} (p : Prog (TpuEff nD τ sig (Elt F) Λ₀ .tc) α) : Prop :=
  ∀ Q : α → sProp 𝕄, iprop(Held defs₀ R c ∗ (∀ a, Held defs₀ R c -∗ Q a))
    ⊢ wp frame (wpE defs₀ Variants.none (c : Thread nD τ) none) Set.univ p Q

/-- A buffer of the family: it can be taken out and put back at any contents. -/
class Part (R : Refs sig) {s : Shape} {e : EltTy} (m : Memref sig .tc .vmem s e) : Prop where
  split : ∀ (F : FTy → Type) (nD : Nat) (τ : Topo) (c : Dev nD) (st : St F), ∃ (X : s.Idx → Elt F e) (put : (s.Idx → Elt F e) → St F),
    (Holds R c st : sProp (MT nD τ sig Unit (Elt F) ℕ (UR sig nD τ) ℕ))
      ⊢ iprop(owns (c : Thread nD τ) m fullShare X ∗ (∀ Y, owns (c : Thread nD τ) m fullShare Y -∗ Holds R c (put Y)))

/-- The buffer of the queries is one of the family. -/
instance : Part R R.q where
  split F nD τ c st := ⟨st.q, fun Y => { st with q := Y }, by
    unfold Holds
    iintro ⟨Hq, Hk, Hv, Hdq, Hdk, Ho, Hqh, Hu, Hp, Hmb, Hm, Hl, Hacc⟩
    isplitl [Hq]; · iexact Hq
    iintro %Y Hq
    isplitl [Hq]; · iexact Hq
    iframe⟩

/-- The buffer of the keys is one of the family. -/
instance : Part R R.k where
  split F nD τ c st := ⟨st.k, fun Y => { st with k := Y }, by
    unfold Holds
    iintro ⟨Hq, Hk, Hv, Hdq, Hdk, Ho, Hqh, Hu, Hp, Hmb, Hm, Hl, Hacc⟩
    isplitl [Hk]; · iexact Hk
    iintro %Y Hk
    isplitl [Hq]; · iexact Hq
    iframe⟩

/-- The buffer of the values is one of the family. -/
instance : Part R R.v where
  split F nD τ c st := ⟨st.v, fun Y => { st with v := Y }, by
    unfold Holds
    iintro ⟨Hq, Hk, Hv, Hdq, Hdk, Ho, Hqh, Hu, Hp, Hmb, Hm, Hl, Hacc⟩
    isplitl [Hv]; · iexact Hv
    iintro %Y Hv
    isplitl [Hq]; · iexact Hq
    iframe⟩

/-- The buffer of the gates at the queries is one of the family. -/
instance : Part R R.dq where
  split F nD τ c st := ⟨st.dq, fun Y => { st with dq := Y }, by
    unfold Holds
    iintro ⟨Hq, Hk, Hv, Hdq, Hdk, Ho, Hqh, Hu, Hp, Hmb, Hm, Hl, Hacc⟩
    isplitl [Hdq]; · iexact Hdq
    iintro %Y Hdq
    isplitl [Hq]; · iexact Hq
    iframe⟩

/-- The buffer of the gates at the keys is one of the family. -/
instance : Part R R.dk where
  split F nD τ c st := ⟨st.dk, fun Y => { st with dk := Y }, by
    unfold Holds
    iintro ⟨Hq, Hk, Hv, Hdq, Hdk, Ho, Hqh, Hu, Hp, Hmb, Hm, Hl, Hacc⟩
    isplitl [Hdk]; · iexact Hdk
    iintro %Y Hdk
    isplitl [Hq]; · iexact Hq
    iframe⟩

/-- The buffer of the result is one of the family. -/
instance : Part R R.o where
  split F nD τ c st := ⟨st.o, fun Y => { st with o := Y }, by
    unfold Holds
    iintro ⟨Hq, Hk, Hv, Hdq, Hdk, Ho, Hqh, Hu, Hp, Hmb, Hm, Hl, Hacc⟩
    isplitl [Ho]; · iexact Ho
    iintro %Y Ho
    isplitl [Hq]; · iexact Hq
    iframe⟩

/-- The buffer of the queries of one head is one of the family. -/
instance : Part R R.qh where
  split F nD τ c st := ⟨st.qh, fun Y => { st with qh := Y }, by
    unfold Holds
    iintro ⟨Hq, Hk, Hv, Hdq, Hdk, Ho, Hqh, Hu, Hp, Hmb, Hm, Hl, Hacc⟩
    isplitl [Hqh]; · iexact Hqh
    iintro %Y Hqh
    isplitl [Hq]; · iexact Hq
    iframe⟩

/-- The buffer of the scores is one of the family. -/
instance : Part R R.u where
  split F nD τ c st := ⟨st.u, fun Y => { st with u := Y }, by
    unfold Holds
    iintro ⟨Hq, Hk, Hv, Hdq, Hdk, Ho, Hqh, Hu, Hp, Hmb, Hm, Hl, Hacc⟩
    isplitl [Hu]; · iexact Hu
    iintro %Y Hu
    isplitl [Hq]; · iexact Hq
    iframe⟩

/-- The buffer of the weights is one of the family. -/
instance : Part R R.p where
  split F nD τ c st := ⟨st.p, fun Y => { st with p := Y }, by
    unfold Holds
    iintro ⟨Hq, Hk, Hv, Hdq, Hdk, Ho, Hqh, Hu, Hp, Hmb, Hm, Hl, Hacc⟩
    isplitl [Hp]; · iexact Hp
    iintro %Y Hp
    isplitl [Hq]; · iexact Hq
    iframe⟩

/-- The buffer of the maxima of a block is one of the family. -/
instance : Part R R.mb where
  split F nD τ c st := ⟨st.mb, fun Y => { st with mb := Y }, by
    unfold Holds
    iintro ⟨Hq, Hk, Hv, Hdq, Hdk, Ho, Hqh, Hu, Hp, Hmb, Hm, Hl, Hacc⟩
    isplitl [Hmb]; · iexact Hmb
    iintro %Y Hmb
    isplitl [Hq]; · iexact Hq
    iframe⟩

/-- The buffer of the running maxima is one of the family. -/
instance : Part R R.m where
  split F nD τ c st := ⟨st.m, fun Y => { st with m := Y }, by
    unfold Holds
    iintro ⟨Hq, Hk, Hv, Hdq, Hdk, Ho, Hqh, Hu, Hp, Hmb, Hm, Hl, Hacc⟩
    isplitl [Hm]; · iexact Hm
    iintro %Y Hm
    isplitl [Hq]; · iexact Hq
    iframe⟩

/-- The buffer of the running sums is one of the family. -/
instance : Part R R.l where
  split F nD τ c st := ⟨st.l, fun Y => { st with l := Y }, by
    unfold Holds
    iintro ⟨Hq, Hk, Hv, Hdq, Hdk, Ho, Hqh, Hu, Hp, Hmb, Hm, Hl, Hacc⟩
    isplitl [Hl]; · iexact Hl
    iintro %Y Hl
    isplitl [Hq]; · iexact Hq
    iframe⟩

/-- The buffer of the weighted sums is one of the family. -/
instance : Part R R.acc where
  split F nD τ c st := ⟨st.acc, fun Y => { st with acc := Y }, by
    unfold Holds
    iintro ⟨Hq, Hk, Hv, Hdq, Hdk, Ho, Hqh, Hu, Hp, Hmb, Hm, Hl, Hacc⟩
    isplitl [Hacc]; · iexact Hacc
    iintro %Y Hacc
    isplitl [Hq]; · iexact Hq
    iframe⟩

/-- A return keeps the buffers owned. -/
theorem Keeps.ret (a : α) : Keeps defs₀ R c (pure a) := by
  intro Q
  refine .trans ?_ (le_wp_ret _ _ _ a Q)
  iintro ⟨H, K⟩
  iapply K; iexact H

/-- One program after another keeps the buffers owned. -/
theorem Keeps.seq {p : Prog (TpuEff nD τ sig (Elt F) Λ₀ .tc) α} {k : α → Prog (TpuEff nD τ sig (Elt F) Λ₀ .tc) β}
    (h : Keeps defs₀ R c p) (hk : ∀ a, Keeps defs₀ R c (k a)) : Keeps defs₀ R c (p >>= k) := by
  intro Q
  rw [wp_bind]
  refine .trans ?_ (h _)
  iintro ⟨H, K⟩
  isplitl [H]; · iexact H
  iintro %a H
  iapply (hk a Q)
  isplitl [H]; · iexact H
  iexact K

/-- A load keeps the buffers owned. -/
theorem Keeps.load {s : Shape} {e : EltTy} {m : Memref sig .tc .vmem s e} [hp : Part R m] {r : LoadRect s} {hl : m.view.LoadsAt r} :
    Keeps defs₀ R c (Prog.lift (.load m r hl)) := by
  intro Q
  unfold Held
  iintro ⟨⟨%st, H⟩, K⟩
  obtain ⟨X, put, h⟩ := hp.split F nD τ c st
  ihave H2 := h $$ H
  icases H2 with ⟨Ho, Hb⟩
  iapply (owns_load defs₀ c (k := _)) $$ Ho
  iintro Ho
  iapply (le_wp_ret _ _ _ _ Q)
  iapply K
  iexists _
  iapply Hb; iexact Ho

/-- A store keeps the buffers owned. -/
theorem Keeps.store {s : Shape} {e : EltTy} {m : Memref sig .tc .vmem s e} [hp : Part R m] {r : Rect s} {w : r.shape.Idx → Elt F e}
    {hx : (m.access r).Stores Finset.univ} {hm : Finset.univ = Finset.univ ∨ ∀ a, r.stride a = 1} :
    Keeps defs₀ R c (Prog.lift (.store m r w Finset.univ hx hm)) := by
  intro Q
  unfold Held
  iintro ⟨⟨%st, H⟩, K⟩
  obtain ⟨X, put, h⟩ := hp.split F nD τ c st
  ihave H2 := h $$ H
  icases H2 with ⟨Ho, Hb⟩
  iapply (owns_store defs₀ c (k := _)) $$ Ho
  iintro Ho
  iapply (le_wp_ret _ _ _ _ Q)
  iapply K
  iexists _
  iapply Hb; iexact Ho

/-- A conditional keeps the buffers owned when both branches do. -/
theorem Keeps.ite {P : Prop} [hd : Decidable P] {p : P → Prog (TpuEff nD τ sig (Elt F) Λ₀ .tc) α} {q : ¬P → Prog (TpuEff nD τ sig (Elt F) Λ₀ .tc) α}
    (hp : ∀ h, Keeps defs₀ R c (p h)) (hq : ∀ h, Keeps defs₀ R c (q h)) : Keeps defs₀ R c (dite P p q) := by
  by_cases h : P
  · rw [dif_pos h]; exact hp h
  · rw [dif_neg h]; exact hq h

/-- A counted loop keeps the buffers owned when every trip does. -/
theorem Keeps.loop {σ : Type} {w : ℕ} (L : Scf.Loop w) (ok : L.OK) (init : σ)
    (body : Fin L.trips → σ → Prog (TpuEff nD τ sig (Elt F) Λ₀ .tc) σ) (h : ∀ k a, Keeps defs₀ R c (body k a)) :
    Keeps defs₀ R c (Scf.Loop.for L ok init body) := by
  intro Q
  refine .trans ?_ (Scf.wp_for _ _ _ _ _ _ ok init body (fun _ _ => Held defs₀ R c) (fun k a => .trans ?_ (h k a _)))
  · exact .rfl
  · iintro H
    isplitl [H]; · iexact H
    iintro %a H; iexact H

end Keeping

end Calculus

end Fox

end
-- ==== Proof.FrameIdeal.lean ====
/-
  The frame of `Cert.KernelIdeal`: the attention's body runs to its end on its buffers, whatever they hold, so every run of
  the program ends, its arguments end as they began, and every semaphore counter ends at zero. Every staged window is
  forgotten here: nothing of its contents is needed.
-/
module

public import proofs.«01_k».proof.Proof.Gen.KernelIdeal.Skeleton
public import proofs.«01_k».proof.Proof.Gen.KernelIdeal.Frame
public import proofs.«01_k».proof.Proof.Gen.KernelIdeal.Points
public import proofs.«01_k».proof.Proof.Run

@[expose] public section

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)
open _root_.Fox Cert.KernelIdeal.Gen

variable {F : FTy → Type} [FloatOps F] [Named F]

local notation "𝕄" => MT nD τ sig Unit (Elt F) ℕ (UR sig nD τ) ℕ

set_option maxHeartbeats 8000000 in
/-- The body of the attention runs to its end on its buffers, whatever they hold. -/
theorem keeps_body (i : grid0.Coords) (R : Refs sig) (c : Dev nD) :
    Keeps (F := F) defs₀ R c (cc0_fox_flash i R.q R.hq R.k R.hk R.v R.hv R.dq R.hdq R.dk R.hdk R.o R.ho R.qh R.hqh R.u R.hu R.p R.hp R.mb R.hmb R.m R.hm R.l R.hl R.acc R.hacc) := by
  repeat' first
    | with_reducible exact Keeps.ret _
    | with_reducible exact Keeps.load
    | with_reducible exact Keeps.store
    | with_reducible refine Keeps.seq ?_ fun _ => ?_
    | with_reducible refine Keeps.ite (fun _ => ?_) (fun _ => ?_)
    | with_reducible refine Keeps.loop _ _ _ _ fun _ _ => ?_
    | refine Keeps.seq ?_ fun _ => ?_

/-- The buffers the body works on at point `t`: the staged blocks, and the scratch buffers whole. -/
abbrev refsAt (t : Fin cfg0.N) : Refs sig where
  q := st0_0 t
  hq := hstage0_0 ((cfg0.slots t 0).cast nbuf0_0)
  k := st0_1 t
  hk := hstage0_1 ((cfg0.slots t 1).cast nbuf0_1)
  v := st0_2 t
  hv := hstage0_2 ((cfg0.slots t 2).cast nbuf0_2)
  dq := st0_3 t
  hdq := hstage0_3 ((cfg0.slots t 3).cast nbuf0_3)
  dk := st0_4 t
  hdk := hstage0_4 ((cfg0.slots t 4).cast nbuf0_4)
  o := st0_5 t
  ho := hstage0_5 ((cfg0.slots t 5).cast nbuf0_5)
  qh := Memref.whole cc0_scratch0
  hqh := Memref.isWhole_whole _
  u := Memref.whole cc0_scratch1
  hu := Memref.isWhole_whole _
  p := Memref.whole cc0_scratch2
  hp := Memref.isWhole_whole _
  mb := Memref.whole cc0_scratch3
  hmb := Memref.isWhole_whole _
  m := Memref.whole cc0_scratch4
  hm := Memref.isWhole_whole _
  l := Memref.whole cc0_scratch5
  hl := Memref.isWhole_whole _
  acc := Memref.whole cc0_scratch6
  hacc := Memref.isWhole_whole _

/-- The body as the pipeline calls it at point `t`. -/
theorem defs₀_row (t : Fin cfg0.N) : defs₀ (F := F) .tc cfg0.body (cfg0.bodyArgs t (cfg0.slots t)) = bodyAt0 t := by
  unfold defs₀; rw [Defs.onTc_tc]

/-- The scratch buffers, each whole at some contents. -/
theorem scratch_eq (c : Dev nD) :
    (Pipeline.scopedRest (Ix := Unit) (Name := ℕ) (U := UR sig nD τ) (Lvl := ℕ) (Val := Elt F) spec0 c : sProp 𝕄)
      = iprop((∃ f, owns (c : Thread nD τ) (Memref.whole cc0_scratch0) fullShare f) ∗ (∃ f, owns (c : Thread nD τ) (Memref.whole cc0_scratch1) fullShare f)
        ∗ (∃ f, owns (c : Thread nD τ) (Memref.whole cc0_scratch2) fullShare f) ∗ (∃ f, owns (c : Thread nD τ) (Memref.whole cc0_scratch3) fullShare f)
        ∗ (∃ f, owns (c : Thread nD τ) (Memref.whole cc0_scratch4) fullShare f) ∗ (∃ f, owns (c : Thread nD τ) (Memref.whole cc0_scratch5) fullShare f)
        ∗ (∃ f, owns (c : Thread nD τ) (Memref.whole cc0_scratch6) fullShare f)) := by
  rw [scopedRest0_eq]; simp only [owns_whole]

variable (m : (ℓ : Loc nD τ sig) → Buf (Elt F) ℓ) (ρ : Dev nD → PrngReg)

/-- Proof data that say nothing of the staged blocks. -/
def plain (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

/-- What the body is given at a point and gives back: every staged block at some contents. -/
def plainHeld (c : Dev nD) (t : Fin cfg0.N) (n : Fin (cfg0.N + 1)) : sProp 𝕄 :=
  iprop((plain m 0 c).Φ n ∗ (plain m 0 c).owesAt () n
    ∗ (∃ X, owns (c : Thread nD τ) (st0_0 t) fullShare X) ∗ (∃ X, owns (c : Thread nD τ) (st0_1 t) fullShare X)
    ∗ (∃ X, owns (c : Thread nD τ) (st0_2 t) fullShare X) ∗ (∃ X, owns (c : Thread nD τ) (st0_3 t) fullShare X)
    ∗ (∃ X, owns (c : Thread nD τ) (st0_4 t) fullShare X) ∗ (∃ X, owns (c : Thread nD τ) (st0_5 t) fullShare X))

/-- The body keeps what it is given. -/
theorem plain_body (c : Dev nD) (t : Fin cfg0.N) :
    plainHeld m c t t.castSucc ⊢ wp frame (wpE (defs₀ (F := F)) Variants.none (c : Thread nD τ) none) Set.univ (bodyAt0 t) (fun _ => plainHeld m c t t.succ) := by
  unfold plainHeld
  rw [show (plain m 0 c).Φ t.succ = (plain m 0 c).Φ t.castSucc from rfl,
    show (plain m 0 c).owesAt () t.succ = (plain m 0 c).owesAt () t.castSucc from rfl,
    show (plain m 0 c).Φ t.castSucc = Pipeline.ΦA spec0 c from rfl]
  unfold Pipeline.ΦA
  rw [scratch_eq]
  refine .trans ?_ (keeps_body (grid0.coords t) (refsAt t) c _)
  unfold Held Holds
  iintro ⟨⟨⟨⟨%s0, S0⟩, ⟨%s1, S1⟩, ⟨%s2, S2⟩, ⟨%s3, S3⟩, ⟨%s4, S4⟩, ⟨%s5, S5⟩, ⟨%s6, S6⟩⟩, Hg⟩, HO, ⟨%x0, W0⟩, ⟨%x1, W1⟩, ⟨%x2, W2⟩, ⟨%x3, W3⟩, ⟨%x4, W4⟩, ⟨%x5, W5⟩⟩
  isplitl [S0 S1 S2 S3 S4 S5 S6 W0 W1 W2 W3 W4 W5]
  · iexists (⟨x0, x1, x2, x3, x4, x5, s0, s1, s2, s3, s4, s5, s6⟩ : St F)
    iframe
  iintro %a ⟨%st, W0, W1, W2, W3, W4, W5, S0, S1, S2, S3, S4, S5, S6⟩
  isplitl [S0 S1 S2 S3 S4 S5 S6 Hg]
  · isplitr [Hg]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    iexact Hg
  isplitl [HO]; · iexact HO
  isplitl [W0]; · iexists _; iexact W0
  isplitl [W1]; · iexists _; iexact W1
  isplitl [W2]; · iexists _; iexact W2
  isplitl [W3]; · iexists _; iexact W3
  isplitl [W4]; · iexists _; iexact W4
  iexists _; iexact W5

/-- The pipeline's obligation on the body, every window forgotten. -/
theorem plain_obligation (c : Dev nD) :
    BodyObligationLoose (plain (F := F) m 0 c) (defs₀ (F := F)) Variants.none () Set.univ (fun _ => true) := fun t => by
  rw [Gen.bigSep_W0]
  exact triple_restated (plain_body m c t) (congrArg (wp Idealize.ShloMosaic.frame (wpE (defs₀ (F := F)) Variants.none (c : Thread nD τ) none) Set.univ) (defs₀_row t).symm) .rfl fun _ => .rfl

set_option backward.isDefEq.respectTransparency.types false in
/-- Every run ends with the buffers the pipeline does not stage as the region found them, and the counters at zero. -/
theorem plain_main :
    θ_run defs (onTc (τ := τ) (main (F := F))) (s₀ m ρ)
      (fun r => Pipeline.RDat.FramePost (cfgs 0) (fun c => (plain m 0 c).toRForget fun _ => true) (V m) r ∧ r.2.sem = fun _ => 0) :=
  Pipeline.θ_run_frame_forget_shared (Q' := _) cfgs (plain m) (0 : Fin 1) launch₀0 defs₀ Variants.none (fun _ => true) m ρ main
    (hbody := plain_obligation m) (hq := fun _ _ _ => rfl) (howed := fun _ _ => rfl) (V := V m) (hmain := hmain m Variants.none)
    (hA := fun _ _ => rfl) (hΦ := fun _ _ => rfl) (hQ' := fun _ h => h)

/-- Every run ends with the arguments as they began and the counters at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (plain_main m ρ)

end Cert.KernelIdeal.Fox

end
-- ==== Proof.Out.lean ====
/-
  The layer's last part, output projection and feed-forward: what the kernel leaves in its result is the reference's
  term of the arguments. Kernel and reference are compared step by step, a tile of tokens against the whole array.
-/
module

public import proofs.«01_k».proof.Proof.Gen.KernelOutIdeal.Frame
public import proofs.«01_k».proof.Proof.Gen.ReferenceOutIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceOutIdeal.Value

open Cert.ReferenceOutIdeal Cert.ReferenceOutIdeal.Gen

/-- The residual stream after the output projection. -/
def resid (x : FVec Ideal S16x4096x1024 .f32) (o : FVec Ideal S16x4096x1024 .f32) (w : FVec Ideal S1024x1024 .f32) : FVec Ideal S16x4096x1024 .f32 :=
  addf x (Host.dotGeneral dot_S16x4096x1024_S1024x1024_S16x4096x1024_2_0_01_1_n_n none o w)

/-- The normalized stream. -/
def normed (x : FVec Ideal S16x4096x1024 .f32) (g : FVec Ideal S1024 .f32) : FVec Ideal S16x4096x1024 .f32 :=
  mulf (mulf x (broadcastInDim S16x4096x1024 ![0, 1, 2] bcast_S16x4096x1_S16x4096x1024_0_1_2 (Host.rsqrt (addf (Host.divf
    (broadcastInDim S16x4096x1 ![0, 1] bcast_S16x4096_S16x4096x1_0_1 (Host.reduceAdd (mulf x x) (constant S_ .f32 0x00000000#32) reducesTo_S16x4096x1024_S16x4096_d2 h_S_))
    (broadcastInDim S16x4096x1 ![] bcast_S_S16x4096x1 (constant S_ .f32 0x44800000#32))) (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g))

/-- A product with a wide weight. -/
def wide (h : FVec Ideal S16x4096x1024 .f32) (w : FVec Ideal S1024x2816 .f32) : FVec Ideal S16x4096x2816 .f32 :=
  Host.dotGeneral dot_S16x4096x1024_S1024x2816_S16x4096x2816_2_0_01_1_n_n none h w

/-- The gated activation. -/
def gated (a b : FVec Ideal S16x4096x2816 .f32) : FVec Ideal S16x4096x2816 .f32 :=
  mulf (mulf a (Host.divf (broadcastInDim S16x4096x2816 ![] bcast_S_S16x4096x2816 (constant S_ .f32 0x3F800000#32))
    (addf (broadcastInDim S16x4096x2816 ![] bcast_S_S16x4096x2816 (constant S_ .f32 0x3F800000#32)) (Host.exp (Host.negf a))))) b

/-- The stream with the feed-forward's product added. -/
def down (x : FVec Ideal S16x4096x1024 .f32) (a : FVec Ideal S16x4096x2816 .f32) (w : FVec Ideal S2816x1024 .f32) : FVec Ideal S16x4096x1024 .f32 :=
  addf x (Host.dotGeneral dot_S16x4096x2816_S2816x1024_S16x4096x1024_2_0_01_1_n_n none a w)

/-- The feed-forward of a stream. -/
def ffn (x : FVec Ideal S16x4096x1024 .f32) (g : FVec Ideal S1024 .f32) (wg wu : FVec Ideal S1024x2816 .f32) (wd : FVec Ideal S2816x1024 .f32) :
    FVec Ideal S16x4096x1024 .f32 := down x (gated (wide (normed x g) wg) (wide (normed x g) wu)) wd

/-- The reference's result is the feed-forward of the residual stream. -/
theorem res_eq (m : (ℓ : Loc nD τ sig) → Buf (Elt Ideal) ℓ) (c : Dev nD) : res_main_v20 m c
    = ffn (resid (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5)) (m ((c.tc : Thread nD τ).loc main_arg6)) := by
  unfold res_main_v20 ffn down gated wide normed resid
  rfl

end Cert.ReferenceOutIdeal.Value

namespace Cert.KernelOutIdeal.Value

open Cert.KernelOutIdeal Cert.KernelOutIdeal.Gen

variable (m : (ℓ : Loc nD τ sig) → Buf (Elt Ideal) ℓ)

/-- A tile of the residual stream after the output projection. -/
def resid (x : FVec Ideal S512x1024 .f32) (o : FVec Ideal S512x1024 .bf16) (w : FVec Ideal S1024x1024 .bf16) : FVec Ideal S512x1024 .f32 :=
  addf x (matmul dot_S512x1024_S1024x1024_S512x1024_1_0_0_1_n_n none o w (constant S512x1024 .f32 0x00000000#32))

/-- A tile of the normalized stream. -/
def normed (x : FVec Ideal S512x1024 .f32) (g : FVec Ideal S1x1024 .f32) : FVec Ideal S512x1024 .bf16 :=
  truncf .bf16 (mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)) bitsLt_bf16_f32

/-- A tile's product with a wide weight. -/
def wide (h : FVec Ideal S512x1024 .bf16) (w : FVec Ideal S1024x2816 .bf16) : FVec Ideal S512x2816 .f32 :=
  matmul dot_S512x1024_S1024x2816_S512x2816_1_0_0_1_n_n none h (shapeCast S1024x2816 w shapeCasts_S1024x2816_S1024x2816) (constant S512x2816 .f32 0x00000000#32)

/-- A tile's gated activation. -/
def gated (a b : FVec Ideal S512x2816 .f32) : FVec Ideal S512x2816 .bf16 := truncf .bf16 (mulf (mulf a (logistic a)) b) bitsLt_bf16_f32

/-- A tile with the feed-forward's product added. -/
def down (x : FVec Ideal S512x1024 .f32) (a : FVec Ideal S512x2816 .bf16) (w : FVec Ideal S2816x1024 .bf16) : FVec Ideal S512x1024 .f32 :=
  addf x (matmul dot_S512x2816_S2816x1024_S512x1024_1_0_0_1_n_n none a (shapeCast S2816x1024 w shapeCasts_S2816x1024_S2816x1024) (constant S512x1024 .f32 0x00000000#32))

/-- What the body stores is the feed-forward of the tile's residual stream. -/
theorem pay_eq (v16 : FVec Ideal S512x1024 .bf16) (v18 : FVec Ideal S512x1024 .f32) (v20 : FVec Ideal S1024x1024 .bf16) (v23 : FVec Ideal S1x1024 .f32)
    (v38 v41 : FVec Ideal S1024x2816 .bf16) (v48 : FVec Ideal S2816x1024 .bf16) : k0_pay1 v16 v18 v20 v23 v38 v41 v48
      = shapeCast S1x512x1024 (down (resid v18 v16 v20) (gated (wide (normed (resid v18 v16 v20) v23) v38) (wide (normed (resid v18 v16 v20) v23) v41)) v48) shapeCasts_S512x1024_S1x512x1024 := by
  unfold k0_pay1 down gated wide normed resid
  rfl

open Cert.ReferenceOutIdeal.Value (res_eq)

section Steps

variable {b : Fin 16} {ρ : Fin 512 → Fin 4096}

/-- The residual stream, tile against array. -/
theorem resid_tie {x o w X O W} (hx : ∀ r c, x (ix2 r c) = X (ix3 b (ρ r) c)) (ho : ∀ r c, o (ix2 r c) = O (ix3 b (ρ r) c))
    (hw : ∀ r c, w (ix2 r c) = W (ix2 r c)) (r : Fin 512) (c : Fin 1024) : resid x o w (ix2 r c) = Cert.ReferenceOutIdeal.Value.resid X O W (ix3 b (ρ r) c) := by
  pointwise [resid, Cert.ReferenceOutIdeal.Value.resid]
  simp only [hx, ho, hw, zero_add]

/-- The normalized stream, tile against array. -/
theorem normed_tie {x g X G} (hx : ∀ r c, x (ix2 r c) = X (ix3 b (ρ r) c)) (hg : ∀ c, g (ix2 0 c) = G (ix1 c))
    (r : Fin 512) (c : Fin 1024) : normed x g (ix2 r c) = Cert.ReferenceOutIdeal.Value.normed X G (ix3 b (ρ r) c) := by
  pointwise [normed, Cert.ReferenceOutIdeal.Value.normed]
  simp only [hx, hg, zero_add]

/-- The product with a wide weight, tile against array. -/
theorem wide_tie {h w H W} (hh : ∀ r c, h (ix2 r c) = H (ix3 b (ρ r) c)) (hw : ∀ r c, w (ix2 r c) = W (ix2 r c))
    (r : Fin 512) (c : Fin 2816) : wide h w (ix2 r c) = Cert.ReferenceOutIdeal.Value.wide H W (ix3 b (ρ r) c) := by
  pointwise [wide, Cert.ReferenceOutIdeal.Value.wide]
  simp only [hh, hw, zero_add]

/-- The gated activation, tile against array. -/
theorem gated_tie {a a' A A'} (ha : ∀ r c, a (ix2 r c) = A (ix3 b (ρ r) c)) (ha' : ∀ r c, a' (ix2 r c) = A' (ix3 b (ρ r) c))
    (r : Fin 512) (c : Fin 2816) : gated a a' (ix2 r c) = Cert.ReferenceOutIdeal.Value.gated A A' (ix3 b (ρ r) c) := by
  pointwise [gated, Cert.ReferenceOutIdeal.Value.gated]
  simp only [ha, ha']
  rfl

/-- The feed-forward's product added, tile against array. -/
theorem down_tie {x a w X A W} (hx : ∀ r c, x (ix2 r c) = X (ix3 b (ρ r) c)) (ha : ∀ r c, a (ix2 r c) = A (ix3 b (ρ r) c))
    (hw : ∀ r c, w (ix2 r c) = W (ix2 r c)) (r : Fin 512) (c : Fin 1024) : down x a w (ix2 r c) = Cert.ReferenceOutIdeal.Value.down X A W (ix3 b (ρ r) c) := by
  pointwise [down, Cert.ReferenceOutIdeal.Value.down]
  simp only [hx, ha, hw, zero_add]

end Steps

/-- A leading axis of extent one added. -/
theorem lead (x : FVec Ideal S512x1024 .f32) (h : S512x1024.ShapeCasts S1x512x1024) (r : Fin 512) (c : Fin 1024) : shapeCast S1x512x1024 x h (ix3 0 r c) = x (ix2 r c) := by
  pointwise

/-- The block indices of the windows. -/
theorem idx : ∀ t : Fin cfg0.N, win0_0.index t = ![(grid0.coords t 0).val, (grid0.coords t 1).val, 0] ∧ win0_1.index t = ![(grid0.coords t 0).val, 0, (grid0.coords t 1).val, 0]
    ∧ win0_2.index t = ![0, 0] ∧ win0_3.index t = ![0, 0] ∧ win0_4.index t = ![0, 0] ∧ win0_5.index t = ![0, 0] ∧ win0_6.index t = ![0, 0]
    ∧ win0_7.index t = ![(grid0.coords t 0).val, (grid0.coords t 1).val, 0] :=
  (by decide +kernel : ∀ t : Fin grid0.N, _)

/-- The heads' columns side by side, read at an index. -/
theorem heads (x : FVec Ideal S1x8x512x128 .bf16) (r : Fin 512) (c : Fin 1024) :
    k0_pay2 (View.ld x r0_0) (View.ld x r0_1) (View.ld x r0_2) (View.ld x r0_3) (View.ld x r0_4) (View.ld x r0_5) (View.ld x r0_6) (View.ld x r0_7) (ix2 r c)
      = x (ix4 0 ⟨c / 128, by omega⟩ r ⟨c % 128, by omega⟩) := by
  pointwise [k0_pay2]
  split_ifs
  all_goals blk_ext

variable (c : Dev nD) (t : Fin cfg0.N)

/-- A tile of the stream is the array's. -/
theorem read_x (hb : (grid0.coords t 0).val < 16) (hj : (grid0.coords t 1).val < 8) (r : Fin 512) (l : Fin 1024) : k0_pay3 (iblk m c 0 t) (ix2 r l)
    = (m ((c : Thread nD τ).loc main_arg0) : S16x4096x1024.Idx → EReal) (ix3 ⟨(grid0.coords t 0).val, hb⟩ ⟨512 * (grid0.coords t 1).val + r, by omega⟩ l) := by
  pointwise [k0_pay3]
  blk_point [iblk, V, idx t]

/-- A tile of the attention's output, heads in pairs, is the array's. -/
theorem read_o (hb : (grid0.coords t 0).val < 16) (hj : (grid0.coords t 1).val < 8) (a : Fin 8) (r : Fin 512) (l : Fin 128) :
    (iblk m c 1 t : S1x8x512x128.Idx → EReal) (ix4 0 a r l)
      = (m ((c : Thread nD τ).loc main_arg1) : S16x4096x1024.Idx → EReal) (ix3 ⟨(grid0.coords t 0).val, hb⟩ ⟨512 * (grid0.coords t 1).val + r, by omega⟩ ⟨128 * a + l, by omega⟩) := by
  blk_point [iblk, V, idx t]

/-- The output projection's weight is the array's. -/
theorem read_wo (r l : Fin 1024) : k0_pay4 (iblk m c 2 t) (ix2 r l) = (m ((c : Thread nD τ).loc main_arg2) : S1024x1024.Idx → EReal) (ix2 r l) := by
  pointwise [k0_pay4]
  blk_point [iblk, V, idx t]

/-- The gains are the array's. -/
theorem read_g (l : Fin 1024) : (iblk m c 3 t : S1x1024.Idx → EReal) (ix2 0 l) = (m ((c : Thread nD τ).loc main_arg3) : S1024.Idx → EReal) (ix1 l) := by
  blk_point [iblk, V, idx t]

/-- The gate's weight is the array's. -/
theorem read_wg (r : Fin 1024) (l : Fin 2816) : (iblk m c 4 t : S1024x2816.Idx → EReal) (ix2 r l) = (m ((c : Thread nD τ).loc main_arg4) : S1024x2816.Idx → EReal) (ix2 r l) := by
  blk_point [iblk, V, idx t]

/-- The up projection's weight is the array's. -/
theorem read_wu (r : Fin 1024) (l : Fin 2816) : (iblk m c 5 t : S1024x2816.Idx → EReal) (ix2 r l) = (m ((c : Thread nD τ).loc main_arg5) : S1024x2816.Idx → EReal) (ix2 r l) := by
  blk_point [iblk, V, idx t]

/-- The down projection's weight is the array's. -/
theorem read_wd (r : Fin 2816) (l : Fin 1024) : (iblk m c 6 t : S2816x1024.Idx → EReal) (ix2 r l) = (m ((c : Thread nD τ).loc main_arg6) : S2816x1024.Idx → EReal) (ix2 r l) := by
  blk_point [iblk, V, idx t]

/-- Where the result's block lies. -/
theorem place (hb : (grid0.coords t 0).val < 16) (hj : (grid0.coords t 1).val < 8) (r : Fin 512) (l : Fin 1024) : (((View.whole main_v8).slice (win0_7.rect t)).emb (ix3 0 r l : S1x512x1024.Idx))
    = (ix3 ⟨(grid0.coords t 0).val, hb⟩ ⟨512 * (grid0.coords t 1).val + r, by omega⟩ l : S16x4096x1024.Idx) := by
  blk_ext [idx t]

/-- The result array after the run is the reference's term. -/
theorem final (c : Dev nD) : (dats m 0 c).arrAt 7 (cfgs 0).N
    = Cert.ReferenceOutIdeal.Value.ffn (Cert.ReferenceOutIdeal.Value.resid (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  frame_out
  rw [pay_eq]
  have hb : (grid0.coords t 0).val < 16 := (grid0.coords t 0).isLt
  have hj : (grid0.coords t 1).val < 8 := (grid0.coords t 1).isLt
  obtain ⟨r, cc, rfl⟩ : ∃ (r : Fin 512) (cc : Fin 1024), y = (ix3 0 r cc : S1x512x1024.Idx) := by
    exact ⟨y 1, y 2, by funext d; apply Fin.ext; fin_cases d <;> first | rfl | exact Nat.lt_one_iff.1 (y 0).isLt⟩
  refine (lead _ _ r cc).trans (Eq.trans ?_ (congrArg _ (place t hb hj r cc)).symm)
  have hr := resid_tie (b := ⟨(grid0.coords t 0).val, hb⟩) (ρ := fun r => ⟨512 * (grid0.coords t 1).val + r, by omega⟩) (read_x m c t hb hj)
    (fun r l => (heads _ r l).trans ((read_o m c t hb hj ⟨l / 128, by omega⟩ r ⟨l % 128, by omega⟩).trans
      (congrArg (m ((c : Thread nD τ).loc main_arg1) : S16x4096x1024.Idx → EReal) (congrArg (ix3 _ _) (Fin.ext (Nat.div_add_mod l.val 128)))))) (read_wo m c t)
  have hn := normed_tie hr (read_g m c t)
  exact down_tie hr (gated_tie (wide_tie hn (read_wg m c t)) (wide_tie hn (read_wu m c t))) (read_wd m c t) r cc

/-- The two programs run and end with equal results. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v8) = Cert.ReferenceOutIdeal.Value.ffn (Cert.ReferenceOutIdeal.Value.resid (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5)) (m ((c : Thread nD τ).loc main_arg6))) :=
  (θ_run defs _ _).mono (fun _ h c => ((h c).1 7).trans (final m c)) (run_main (F := Ideal) m ρ)

end Cert.KernelOutIdeal.Value

end
-- ==== Proof.Kvq.lean ====
/-
  The layer's shared projections: keys, values, forget gates and queries. What the kernel leaves in its results is the
  reference's terms of the arguments. A head's mean square is a product with the heads' membership matrix in the kernel
  and a mean in the reference.
-/
module

public import proofs.«01_k».proof.Proof.Gen.KernelKvqIdeal.Frame
public import proofs.«01_k».proof.Proof.Gen.ReferenceKvqIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceKvqIdeal.Value

open Cert.ReferenceKvqIdeal Cert.ReferenceKvqIdeal.Gen

/-- The normalized stream. -/
def normed (x : FVec Ideal S16x4096x1024 .f32) (g : FVec Ideal S1024 .f32) : FVec Ideal S16x4096x1024 .f32 :=
  mulf (mulf x (broadcastInDim S16x4096x1024 ![0, 1, 2] bcast_S16x4096x1_S16x4096x1024_0_1_2 (Host.rsqrt (addf (Host.divf
    (broadcastInDim S16x4096x1 ![0, 1] bcast_S16x4096_S16x4096x1_0_1 (Host.reduceAdd (mulf x x) (constant S_ .f32 0x00000000#32) reducesTo_S16x4096x1024_S16x4096_d2 h_S_))
    (broadcastInDim S16x4096x1 ![] bcast_S_S16x4096x1 (constant S_ .f32 0x44800000#32))) (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g))

/-- A product with a weight. -/
def prod (h : FVec Ideal S16x4096x1024 .f32) (w : FVec Ideal S1024x1024 .f32) : FVec Ideal S16x4096x1024 .f32 :=
  Host.dotGeneral dot_S16x4096x1024_S1024x1024_S16x4096x1024_2_0_01_1_n_n none h w

/-- The stream cut into heads. -/
def cut (y : FVec Ideal S16x4096x1024 .f32) : FVec Ideal S16x4096x16x64 .f32 := shapeCast S16x4096x16x64 y shapeCasts_S16x4096x1024_S16x4096x16x64

/-- The stream, each head normalized. -/
def headed (y : FVec Ideal S16x4096x1024 .f32) (g : FVec Ideal S64 .f32) : FVec Ideal S16x4096x16x64 .f32 :=
  mulf (mulf (cut y) (broadcastInDim S16x4096x16x64 ![0, 1, 2, 3] bcast_S16x4096x16x1_S16x4096x16x64_0_1_2_3 (Host.rsqrt (addf (Host.divf
    (broadcastInDim S16x4096x16x1 ![0, 1, 2] bcast_S16x4096x16_S16x4096x16x1_0_1_2 (Host.reduceAdd (mulf (cut y) (cut y)) (constant S_ .f32 0x00000000#32) reducesTo_S16x4096x16x64_S16x4096x16_d3 h_S_))
    (broadcastInDim S16x4096x16x1 ![] bcast_S_S16x4096x16x1 (constant S_ .f32 0x42800000#32))) (broadcastInDim S16x4096x16x1 ![] bcast_S_S16x4096x16x1 (constant S_ .f32 0x358637BD#32))))))
    (broadcastInDim S16x4096x16x64 ![0, 1, 2, 3] bcast_S1x1x1x64_S16x4096x16x64_0_1_2_3 (broadcastInDim S1x1x1x64 ![3] bcast_S64_S1x1x1x64_3 g))

/-- Heads put back side by side. -/
def flat (y : FVec Ideal S16x4096x16x64 .f32) : FVec Ideal S16x4096x1024 .f32 := shapeCast S16x4096x1024 y shapeCasts_S16x4096x16x64_S16x4096x1024

/-- The gates before the sigmoid. -/
def gate (h : FVec Ideal S16x4096x1024 .f32) (w : FVec Ideal S1024x16 .f32) (b : FVec Ideal S16 .f32) : FVec Ideal S16x4096x16 .f32 :=
  addf (Host.dotGeneral dot_S16x4096x1024_S1024x16_S16x4096x16_2_0_01_1_n_n none h w)
    (broadcastInDim S16x4096x16 ![0, 1, 2] bcast_S1x1x16_S16x4096x16_0_1_2 (broadcastInDim S1x1x16 ![2] bcast_S16_S1x1x16_2 b))

/-- A zero for each gate. -/
def nil : FVec Ideal S16x4096x16 .f32 := broadcastInDim S16x4096x16 ![] bcast_S_S16x4096x16 (constant S_ .f32 0x00000000#32)

/-- The logarithm of the sigmoid. -/
def logsig (z : FVec Ideal S16x4096x16 .f32) : FVec Ideal S16x4096x16 .f32 :=
  Host.negf (select (cmpf .une (subf (Host.negf z) nil) (subf (Host.negf z) nil)) (addf (Host.negf z) nil)
    (addf (maximumf (Host.negf z) nil) (Host.log1p (Host.exp (Host.negf (Host.absf (subf (Host.negf z) nil)))))))

/-- The stream's heads in pairs. -/
def pairs (y : FVec Ideal S16x4096x1024 .f32) : FVec Ideal S16x8x4096x128 .bf16 :=
  truncf .bf16 (transpose S16x8x4096x128 [0, 2, 1, 3] (shapeCast S16x4096x8x128 y shapeCasts_S16x4096x1024_S16x4096x8x128) transposes_S16x4096x8x128_S16x8x4096x128_0_2_1_3) bitsLt_bf16_f32

/-- The queries scaled, heads in pairs. -/
def scaled (y : FVec Ideal S16x4096x16x64 .f32) : FVec Ideal S16x8x4096x128 .bf16 :=
  truncf .bf16 (transpose S16x8x4096x128 [0, 2, 1, 3] (shapeCast S16x4096x8x128 (mulf y (broadcastInDim S16x4096x16x64 ![] bcast_S_S16x4096x16x64
    (Host.divf (constant S_ .f32 0x3E000000#32) (Host.log (constant S_ .f32 0x40000000#32))))) shapeCasts_S16x4096x16x64_S16x4096x8x128) transposes_S16x4096x8x128_S16x8x4096x128_0_2_1_3) bitsLt_bf16_f32

/-- The stream transposed. -/
def turned (y : FVec Ideal S16x4096x1024 .f32) : FVec Ideal S16x1024x4096 .bf16 :=
  truncf .bf16 (transpose S16x1024x4096 [0, 2, 1] y transposes_S16x4096x1024_S16x1024x4096_0_2_1) bitsLt_bf16_f32

end Cert.ReferenceKvqIdeal.Value

namespace Cert.KernelKvqIdeal.Value

open Cert.KernelKvqIdeal Cert.KernelKvqIdeal.Gen

variable (m : (ℓ : Loc nD τ sig) → Buf (Elt Ideal) ℓ)

/-- The reciprocal root of a sum of squares and a positive constant is a real number. -/
theorem rsqrt_real {x e : EReal} (hx : 0 ≤ x) (he : 0 < e) (he' : e ≠ ⊤) : ∃ r : ℝ, Ideal.rsqrt (x + e) = (r : EReal) := by
  induction x with
  | bot => exact absurd hx (by simp)
  | top => exact ⟨0, by rw [EReal.top_add_of_ne_bot (by rintro rfl; simp at he)]; rfl⟩
  | coe a =>
    induction e with
    | bot => simp at he
    | top => exact absurd rfl he'
    | coe e =>
      have ha : 0 ≤ a := by exact_mod_cast hx
      have hb : 0 < e := by exact_mod_cast he
      refine ⟨(Real.sqrt (a + e))⁻¹, ?_⟩
      rw [← EReal.coe_add, Ideal.rsqrt_coe, if_neg (by linarith), if_neg (by positivity)]

/-- A sum of squares is not negative. -/
theorem square_nonneg (y : EReal) : 0 ≤ y * y := by
  induction y with
  | bot => simp
  | top => simp
  | coe a => exact_mod_cast mul_self_nonneg a

/-- Weighing a sum of terms that are not negative weighs each term. -/
theorem weigh {ι : Type} (s : Finset ι) (f : ι → EReal) (hf : ∀ a, 0 ≤ f a) (w : EReal) : (∑ a ∈ s, f a) * w = ∑ a ∈ s, f a * w := by
  classical
  induction s using Finset.induction_on with
  | empty => simp
  | insert a s ha ih => rw [Finset.sum_insert ha, Finset.sum_insert ha, EReal.right_distrib_of_nonneg (hf a) (Finset.sum_nonneg fun i _ => hf i), ih]

/-- A sum over the stream's columns, weighed by membership in a head, is the head's sum weighed. -/
theorem head_sum (f : Fin 1024 → EReal) (hf : ∀ a, 0 ≤ f a) (h : Nat) (hh : h < 16) (w : EReal) :
    ∑ a : Fin 1024, f a * (if a.val / 64 = h then w else 0) = (∑ d : Fin 64, f ⟨h * 64 + d, by omega⟩) * w := by
  rw [weigh _ _ (fun _ => hf _)]
  simp only [mul_ite, mul_zero]
  rw [← Finset.sum_filter]
  refine Finset.sum_nbij' (fun a => ⟨a.val % 64, by omega⟩) (fun d => ⟨h * 64 + d, by omega⟩) ?_ ?_ ?_ ?_ ?_
  · exact fun _ _ => Finset.mem_univ _
  · intro d _
    simp only [Finset.mem_filter, Finset.mem_univ, true_and]
    omega
  · intro a ha
    simp only [Finset.mem_filter, Finset.mem_univ, true_and] at ha
    apply Fin.ext
    show h * 64 + a.val % 64 = a.val
    omega
  · intro d _
    apply Fin.ext
    show (h * 64 + d.val) % 64 = d.val
    omega
  · intro a ha
    simp only [Finset.mem_filter, Finset.mem_univ, true_and] at ha
    congr 2
    apply Fin.ext
    show a.val = h * 64 + a.val % 64
    omega

/-- A sum over the heads against membership is the head's term. -/
theorem head_pick (R : Fin 128 → EReal) (h : Nat) (hh : h < 128) (f : Fin 128 → EReal) (hf : ∀ j, f j = if j.val = h then 1 else 0) :
    ∑ j : Fin 128, R j * f j = R ⟨h, hh⟩ := by
  rw [Finset.sum_eq_single (⟨h, hh⟩ : Fin 128)]
  · rw [hf, if_pos rfl, mul_one]
  · intro j _ hj
    rw [hf, if_neg fun e => hj (Fin.ext e), mul_zero]
  · exact fun hn => absurd (Finset.mem_univ _) hn

/-- A real number less itself is zero. -/
theorem self_sub {x : EReal} (hx : ∃ r : ℝ, x = (r : EReal)) : x - x = 0 := by
  obtain ⟨r, rfl⟩ := hx
  rw [← EReal.coe_sub, sub_self, EReal.coe_zero]

/-- The mean squares' small constant is positive and real. -/
theorem eps_pos : 0 < Ideal.ofBits FTy.f32 897988541#32 ∧ Ideal.ofBits FTy.f32 897988541#32 ≠ ⊤ := by
  have h : Ideal.ofBits FTy.f32 897988541#32 = ((8796093 / 8796093022208 : ℝ) : EReal) := by
    simp [Ideal.ofBits, Ideal.ieee, -EReal.coe_mul]; norm_num
  rw [h]
  exact ⟨by exact_mod_cast (by norm_num : (0 : ℝ) < 8796093 / 8796093022208), EReal.coe_ne_top _⟩

/-- Dividing by the number of a head's columns is weighing by its reciprocal. -/
theorem div_cols (x : EReal) : Ideal.div x (Ideal.ofBits FTy.f32 1115684864#32) = x * ((1 / 64 : ℝ) : EReal) := by
  have h : Ideal.ofBits FTy.f32 1115684864#32 = ((64 : ℝ) : EReal) := by
    simp [Ideal.ofBits, Ideal.ieee, -EReal.coe_mul]; norm_num
  rw [h, Ideal.div, if_neg (by exact_mod_cast (by norm_num : (64 : ℝ) ≠ 0)), ← EReal.coe_inv, one_div]

/-- The heads' weight is the reciprocal of their number of columns. -/
theorem weight : Ideal.ofBits FTy.f32 1015021568#32 = ((1 / 64 : ℝ) : EReal) := by
  simp [Ideal.ofBits, Ideal.ieee, -EReal.coe_mul]; norm_num

/-- The queries' scale is the quotient the reference takes. -/
theorem scale : (Named.named (F := Ideal) (φ := .f32) κ "scale" 1043900987#32) = Ideal.div (Ideal.ofBits FTy.f32 1040187392#32) (Ideal.log (Ideal.ofBits FTy.f32 1073741824#32)) := by
  have h8 : Ideal.ofBits FTy.f32 1040187392#32 = ((1 / 8 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have hl : Real.log 2 ≠ 0 := (Real.log_pos (by norm_num)).ne'
  rw [h8, h2, show Ideal.log ((2 : ℝ) : EReal) = ((Real.log 2 : ℝ) : EReal) from if_neg (by norm_num), Ideal.div, if_neg (by exact_mod_cast hl), ← EReal.coe_inv, ← EReal.coe_mul]
  rfl

section Steps

variable {b : Fin 16} {ρ : Fin 512 → Fin 4096}

/-- The normalized stream, tile against array. -/
theorem normed_tie {x : Vec Ideal S1x512x1024 .f32} {g : Vec Ideal S1x1024 .f32} {X G} (hx : ∀ r c, x (ix3 0 r c) = X (ix3 b (ρ r) c)) (hg : ∀ c, g (ix2 0 c) = G (ix1 c))
    (r : Fin 512) (c : Fin 1024) : k0_pay5 x g (ix2 r c) = Cert.ReferenceKvqIdeal.Value.normed X G (ix3 b (ρ r) c) := by
  pointwise [k0_pay5, k0_pay4, Cert.ReferenceKvqIdeal.Value.normed]
  simp only [hx, hg, zero_add]

/-- The product with a weight, tile against array. -/
theorem prod_tie {h : FVec Ideal S512x1024 .bf16} {w : Vec Ideal S1024x1024 .bf16} {H W} (hh : ∀ r c, h (ix2 r c) = H (ix3 b (ρ r) c)) (hw : ∀ r c, w (ix2 r c) = W (ix2 r c))
    (r : Fin 512) (c : Fin 1024) : k0_pay29 h w (ix2 r c) = Cert.ReferenceKvqIdeal.Value.prod H W (ix3 b (ρ r) c) := by
  pointwise [k0_pay29, Cert.ReferenceKvqIdeal.Value.prod]
  simp only [hh, hw, zero_add]

/-- The logarithm of the gates' sigmoid, tile against array. -/
theorem logsig_tie {h : FVec Ideal S512x1024 .bf16} {w : Vec Ideal S1024x128 .bf16} {v : Vec Ideal S1x16 .f32} {H W B} (hh : ∀ r c, h (ix2 r c) = H (ix3 b (ρ r) c))
    (hw : ∀ (r : Fin 1024) (c : Fin 16), w (ix2 r ⟨c, by omega⟩) = W (ix2 r c)) (hv : ∀ c, v (ix2 0 c) = B (ix1 c))
    (r : Fin 512) (c : Fin 16) : k0_pay28 (k0_pay27 h w) v (ix3 0 r c) = Cert.ReferenceKvqIdeal.Value.logsig (Cert.ReferenceKvqIdeal.Value.gate H W B) (ix3 b (ρ r) c) := by
  pointwise [k0_pay28, k0_pay27, Cert.ReferenceKvqIdeal.Value.logsig, Cert.ReferenceKvqIdeal.Value.gate, Cert.ReferenceKvqIdeal.Value.nil]
  simp only [hh, hw, hv, zero_add, sub_zero]
  rw [if_neg (not_not.2 rfl), zero_sub, zero_sub, zero_sub]
  refine congrArg Neg.neg (congrArg _ (congrArg _ (congrArg Ideal.exp (congrArg Neg.neg ?_))))
  change max _ (-_) = max (-_) (- -_)
  rw [neg_neg, max_comm]

/-- A head's reciprocal root mean square, from the product with the heads' weights. -/
theorem rms (Y : Fin 1024 → EReal) {e : Fin 1024 → Fin 128 → EReal} (he : ∀ a h, e a h = if a.val / 64 = h.val then ((1 / 64 : ℝ) : EReal) else 0) (h : Nat) (hh : h < 16) :
    Ideal.rsqrt (∑ a, Y a * Y a * e a ⟨h, by omega⟩ + Ideal.ofBits FTy.f32 897988541#32)
      = Ideal.rsqrt (Ideal.div (∑ d : Fin 64, Y ⟨h * 64 + d, by omega⟩ * Y ⟨h * 64 + d, by omega⟩) (Ideal.ofBits FTy.f32 1115684864#32) + Ideal.ofBits FTy.f32 897988541#32) := by
  simp only [he]
  rw [head_sum (fun a => Y a * Y a) (fun a => square_nonneg _) h hh, div_cols]

/-- The reciprocal root mean squares are real numbers. -/
theorem rms_real (Y : Fin 1024 → EReal) {e : Fin 1024 → Fin 128 → EReal} (he : ∀ a h, e a h = if a.val / 64 = h.val then ((1 / 64 : ℝ) : EReal) else 0) (h : Fin 128) :
    ∃ r : ℝ, Ideal.rsqrt (∑ a, Y a * Y a * e a h + Ideal.ofBits FTy.f32 897988541#32) = (r : EReal) := by
  refine rsqrt_real (Finset.sum_nonneg fun a _ => ?_) eps_pos.1 eps_pos.2
  rw [he]
  split_ifs
  · exact EReal.mul_nonneg (square_nonneg _) (by exact_mod_cast (by norm_num : (0 : ℝ) ≤ 1 / 64))
  · rw [mul_zero]

/-- The normalized heads, tile against array. -/
theorem headed_tie {x : Vec Ideal S1x512x1024 .f32} {gx : Vec Ideal S1x1024 .f32} {w : Vec Ideal S1024x1024 .bf16} {e : Vec Ideal S1024x128 .bf16} {f : Vec Ideal S256x1024 .bf16} {g : Vec Ideal S1x1024 .f32} {Y G}
    (hy : ∀ r c, k0_pay7 x gx w (ix2 r c) = Y (ix3 b (ρ r) c)) (he : ∀ a h, e (ix2 a h) = if a.val / 64 = h.val then ((1 / 64 : ℝ) : EReal) else 0)
    (hf : ∀ j a, f (ix2 j a) = if j.val % 128 = a.val / 64 then (1 : EReal) else 0) (hg : ∀ c, g (ix2 0 c) = G (ix1 ⟨c.val % 64, by omega⟩)) (r : Fin 512) (c : Fin 1024) :
    k0_pay12 (k0_pay7 x gx w) (k0_pay8 g) (k0_pay10 x gx w e) (k0_pay11 x gx w e) f (ix2 r c)
      = Cert.ReferenceKvqIdeal.Value.headed Y G (ix4 b (ρ r) ⟨c / 64, by omega⟩ ⟨c % 64, by omega⟩) := by
  pointwise [k0_pay12, k0_pay8, k0_pay10, k0_pay11, k0_pay9, Cert.ReferenceKvqIdeal.Value.headed, Cert.ReferenceKvqIdeal.Value.cut]
  simp only [hy, hg, zero_add]
  have hr := fun h => rms_real (fun a => Y (ix3 b (ρ r) a)) (e := fun a h => e (ix2 a h)) he h
  simp only [fun h => self_sub (hr h), zero_mul, Finset.sum_const_zero, add_zero]
  rw [head_pick _ (c / 64) (by omega) _ (fun j => (hf _ c).trans (by simp only [Nat.mod_eq_of_lt j.isLt])), rms _ he _ (by omega)]

/-- The queries' normalized heads scaled, tile against array. -/
theorem scaled_tie {h : FVec Ideal S512x1024 .bf16} {w : Vec Ideal S1024x1024 .bf16} {e : Vec Ideal S1024x128 .bf16} {f : Vec Ideal S256x1024 .bf16} {g : Vec Ideal S1x1024 .f32} {Y G}
    (hy : ∀ r c, k0_pay29 h w (ix2 r c) = Y (ix3 b (ρ r) c)) (he : ∀ a h, e (ix2 a h) = if a.val / 64 = h.val then ((1 / 64 : ℝ) : EReal) else 0)
    (hf : ∀ j a, f (ix2 j a) = if j.val % 128 = a.val / 64 then (1 : EReal) else 0) (hg : ∀ c, g (ix2 0 c) = G (ix1 ⟨c.val % 64, by omega⟩)) (r : Fin 512) (p : Fin 8) (l : Fin 128) :
    k0_pay33 (k0_pay29 h w) (k0_pay30 g) (k0_pay31 h w e) (k0_pay32 f) (constant S512x1024 .f32 0x00000000#32) (ix2 r ⟨128 * p + l, by omega⟩)
      = Cert.ReferenceKvqIdeal.Value.scaled (Cert.ReferenceKvqIdeal.Value.headed Y G) (ix4 b p (ρ r) l) := by
  pointwise [k0_pay33, k0_pay30, k0_pay31, k0_pay32, Cert.ReferenceKvqIdeal.Value.scaled, Cert.ReferenceKvqIdeal.Value.headed, Cert.ReferenceKvqIdeal.Value.cut]
  simp only [hy, hg, zero_add]
  have hr := fun h => rms_real (fun a => Y (ix3 b (ρ r) a)) (e := fun a h => e (ix2 a h)) he h
  simp only [fun h => self_sub (hr h), zero_mul, Finset.sum_const_zero, add_zero]
  rw [head_pick _ ((128 * p.val + l.val) / 64) (by omega) _ (fun j => (hf _ _).trans (by simp only [Nat.mod_eq_of_lt j.isLt])), rms _ he _ (by omega), scale]
  have e : (128 * p.val + l.val) / 64 = p.val * 2 + l.val / 64 := by omega
  have e' : (128 * p.val + l.val) % 64 = l.val % 64 := by omega
  have e'' : 128 * p.val + l.val = (p.val * 2 + l.val / 64) * 64 + l.val % 64 := by omega
  simp only [e, e']
  simp only [e'']

end Steps

/-- The head of each column. -/
def quot : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32))) (broadcastInDim S1024 ![] bcast_S_S1024 (constantI S_ 32 0#32))))
    (subi (Host.divsi (iotaInDim S1024 32 0) (broadcastInDim S1024 ![] bcast_S_S1024 (constantI S_ 32 64#32))) (broadcastInDim S1024 ![] bcast_S_S1024 (constantI S_ 32 1#32)))
    (Host.divsi (iotaInDim S1024 32 0) (broadcastInDim S1024 ![] bcast_S_S1024 (constantI S_ 32 64#32)))

/-- Which columns lie in which head. -/
def member : IVec S1024x128 1 :=
  cmpi .eq (broadcastInDim S1024x128 ![0, 1] bcast_S1024x1_S1024x128_0_1 (broadcastInDim S1024x1 ![0] bcast_S1024_S1024x1_0 quot))
    (broadcastInDim S1024x128 ![0, 1] bcast_S1x128_S1024x128_0_1 (broadcastInDim S1x128 ![1] bcast_S128_S1x128_1 (iotaInDim S128 32 0)))

/-- A column's head is its quotient by the number of a head's columns. -/
theorem quot_at : ∀ a : Fin 1024, quot (ix1 a) = BitVec.ofNat 32 (a.val / 64) := by
  decide +kernel

/-- A column lies in the head that is its quotient. -/
theorem member_at (a : Fin 1024) (h : Fin 128) : member (ix2 a h) = if a.val / 64 = h.val then 1#1 else 0#1 := by
  pointwise [member]
  rw [quot_at]
  rw [IntOp.cmpi]
  by_cases e : a.val / 64 = h.val
  · rw [if_pos e, e]
    simp
  · rw [if_neg e]
    have : ¬ BitVec.ofNat 32 (a.val / 64) = BitVec.ofNat 32 h.val := fun q => e (by
      have := congrArg BitVec.toNat q
      simp only [BitVec.toNat_ofNat] at this
      omega)
    exact congrArg BitVec.ofBool (beq_false_of_ne this)

section Entry

variable (c : Dev nD)

/-- The keys' and values' gains as a row. -/
theorem V_g : V m c main_v25 = (shapeCast S1x1024 (m ((c : Thread nD τ).loc main_arg1) : FVec Ideal S1024 .f32) shapeCasts_S1024_S1x1024 : FVec Ideal S1x1024 .f32) := by
  unfold V
  simp only [List.flatten_cons, List.flatten_nil, List.append_nil, List.cons_append, List.nil_append]
  after_results
  rfl

/-- The queries' gains as a row. -/
theorem V_gq : V m c main_v26 = (shapeCast S1x1024 (m ((c : Thread nD τ).loc main_arg2) : FVec Ideal S1024 .f32) shapeCasts_S1024_S1x1024 : FVec Ideal S1x1024 .f32) := by
  unfold V
  simp only [List.flatten_cons, List.flatten_nil, List.append_nil, List.cons_append, List.nil_append]
  after_results
  rfl

/-- The gates' bias as a row. -/
theorem V_bf : V m c main_v29 = (shapeCast S1x16 (m ((c : Thread nD τ).loc main_arg6) : FVec Ideal S16 .f32) shapeCasts_S16_S1x16 : FVec Ideal S1x16 .f32) := by
  unfold V
  simp only [List.flatten_cons, List.flatten_nil, List.append_nil, List.cons_append, List.nil_append]
  after_results
  rfl

/-- The keys' head gains repeated in a row. -/
theorem V_gk : V m c main_v20 = (shapeCast S1x1024 (shapeCast S1024 (broadcastInDim S16x64 ![0, 1] bcast_S1x64_S16x64_0_1
    (shapeCast S1x64 (m ((c : Thread nD τ).loc main_arg8) : FVec Ideal S64 .f32) shapeCasts_S64_S1x64)) shapeCasts_S16x64_S1024) shapeCasts_S1024_S1x1024 : FVec Ideal S1x1024 .f32) := by
  unfold V
  simp only [List.flatten_cons, List.flatten_nil, List.append_nil, List.cons_append, List.nil_append]
  after_results
  rfl

/-- The queries' head gains repeated in a row. -/
theorem V_gn : V m c main_v24 = (shapeCast S1x1024 (shapeCast S1024 (broadcastInDim S16x64 ![0, 1] bcast_S1x64_S16x64_0_1
    (shapeCast S1x64 (m ((c : Thread nD τ).loc main_arg9) : FVec Ideal S64 .f32) shapeCasts_S64_S1x64)) shapeCasts_S16x64_S1024) shapeCasts_S1024_S1x1024 : FVec Ideal S1x1024 .f32) := by
  unfold V
  simp only [List.flatten_cons, List.flatten_nil, List.append_nil, List.cons_append, List.nil_append]
  after_results
  rfl

/-- The keys' weight. -/
theorem V_wk : V m c main_v27 = (truncf .bf16 (m ((c : Thread nD τ).loc main_arg3) : FVec Ideal S1024x1024 .f32) bitsLt_bf16_f32 : FVec Ideal S1024x1024 .bf16) := by
  unfold V
  simp only [List.flatten_cons, List.flatten_nil, List.append_nil, List.cons_append, List.nil_append]
  after_results

/-- The values' weight. -/
theorem V_wv : V m c main_v28 = (truncf .bf16 (m ((c : Thread nD τ).loc main_arg4) : FVec Ideal S1024x1024 .f32) bitsLt_bf16_f32 : FVec Ideal S1024x1024 .bf16) := by
  unfold V
  simp only [List.flatten_cons, List.flatten_nil, List.append_nil, List.cons_append, List.nil_append]
  after_results

/-- The queries' weight. -/
theorem V_wq : V m c main_v30 = (truncf .bf16 (m ((c : Thread nD τ).loc main_arg7) : FVec Ideal S1024x1024 .f32) bitsLt_bf16_f32 : FVec Ideal S1024x1024 .bf16) := by
  unfold V
  simp only [List.flatten_cons, List.flatten_nil, List.append_nil, List.cons_append, List.nil_append]
  after_results

/-- The gates' weight, padded. -/
theorem V_wf : V m c main_v1 = (truncf .bf16 (pad S1024x128 ![0, 0] ![0, 112] ![0, 0] (m ((c : Thread nD τ).loc main_arg5) : FVec Ideal S1024x16 .f32)
    (sitofp .f32 (constantI S_ 32 0#32)) pads_S1024x16_S1024x128_000_01120 h_S_) bitsLt_bf16_f32 : FVec Ideal S1024x128 .bf16) := by
  unfold V
  simp only [List.flatten_cons, List.flatten_nil, List.append_nil, List.cons_append, List.nil_append]
  after_results
  rfl

/-- The heads' weights. -/
theorem V_e : V m c main_v11 = (truncf .bf16 (select member (broadcastInDim S1024x128 ![] bcast_S_S1024x128 (constant S_ .f32 0x3C800000#32))
    (broadcastInDim S1024x128 ![] bcast_S_S1024x128 (constant S_ .f32 0x00000000#32))) bitsLt_bf16_f32 : FVec Ideal S1024x128 .bf16) := by
  unfold V
  simp only [List.flatten_cons, List.flatten_nil, List.append_nil, List.cons_append, List.nil_append]
  after_results
  rfl

/-- The heads' membership, twice. -/
theorem V_f : V m c main_v16 = (shapeCast S256x1024 (broadcastInDim S2x128x1x1024 ![0, 1, 2, 3] bcast_S1x128x1x1024_S2x128x1x1024_0_1_2_3
    (shapeCast S1x128x1x1024 (uitofp (F := Ideal) .bf16 (transpose S128x1024 [1, 0] member transposes_S1024x128_S128x1024_1_0)) shapeCasts_S128x1024_S1x128x1x1024))
      shapeCasts_S2x128x1x1024_S256x1024 : FVec Ideal S256x1024 .bf16) := by
  unfold V
  simp only [List.flatten_cons, List.flatten_nil, List.append_nil, List.cons_append, List.nil_append]
  after_results
  rfl

/-- The padded weight's first columns are the weight's. -/
theorem padded (x : FVec Ideal S1024x16 .f32) (r : Fin 1024) (l : Fin 16) : (truncf .bf16 (pad S1024x128 ![0, 0] ![0, 112] ![0, 0] x
    (sitofp .f32 (constantI S_ 32 0#32)) pads_S1024x16_S1024x128_000_01120 h_S_) bitsLt_bf16_f32 : FVec Ideal S1024x128 .bf16) (ix2 r ⟨l, by omega⟩) = x (ix2 r l) := by
  pointwise

/-- The block indices of the windows. -/
theorem idx : ∀ t : Fin cfg0.N, win0_0.index t = ![(grid0.coords t 0).val, (grid0.coords t 1).val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![(grid0.coords t 0).val, (grid0.coords t 1).val, 0] ∧ win0_13.index t = ![(grid0.coords t 0).val, (grid0.coords t 1).val, 0]
    ∧ win0_14.index t = ![(grid0.coords t 0).val, (grid0.coords t 1).val, 0] ∧ win0_15.index t = ![(grid0.coords t 0).val, 0, (grid0.coords t 1).val, 0]
    ∧ win0_16.index t = ![(grid0.coords t 0).val, 0, (grid0.coords t 1).val, 0] ∧ win0_17.index t = ![(grid0.coords t 0).val, 0, (grid0.coords t 1).val] :=
  (by decide +kernel : ∀ t : Fin grid0.N, _)

variable (t : Fin cfg0.N)

/-- A tile of the stream is the array's. -/
theorem read_x (hb : (grid0.coords t 0).val < 16) (hj : (grid0.coords t 1).val < 8) (r : Fin 512) (l : Fin 1024) : (iblk m c 0 t : S1x512x1024.Idx → EReal) (ix3 0 r l)
    = (m ((c : Thread nD τ).loc main_arg0) : S16x4096x1024.Idx → EReal) (ix3 ⟨(grid0.coords t 0).val, hb⟩ ⟨512 * (grid0.coords t 1).val + r, by omega⟩ l) := by
  blk_point [iblk, V, idx t]

/-- The keys' and values' gains are the array's. -/
theorem read_g (l : Fin 1024) : (iblk m c 1 t : S1x1024.Idx → EReal) (ix2 0 l) = (m ((c : Thread nD τ).loc main_arg1) : S1024.Idx → EReal) (ix1 l) := by
  blk_simp [iblk]
  rw [V_g]
  pointwise
  blk_point [idx t]

/-- The queries' gains are the array's. -/
theorem read_gq (l : Fin 1024) : (iblk m c 2 t : S1x1024.Idx → EReal) (ix2 0 l) = (m ((c : Thread nD τ).loc main_arg2) : S1024.Idx → EReal) (ix1 l) := by
  blk_simp [iblk]
  rw [V_gq]
  pointwise
  blk_point [idx t]

/-- The keys' weight is the array's. -/
theorem read_wk (r l : Fin 1024) : (iblk m c 3 t : S1024x1024.Idx → EReal) (ix2 r l) = (m ((c : Thread nD τ).loc main_arg3) : S1024x1024.Idx → EReal) (ix2 r l) := by
  blk_point [iblk, V, idx t]

/-- The values' weight is the array's. -/
theorem read_wv (r l : Fin 1024) : (iblk m c 4 t : S1024x1024.Idx → EReal) (ix2 r l) = (m ((c : Thread nD τ).loc main_arg4) : S1024x1024.Idx → EReal) (ix2 r l) := by
  blk_point [iblk, V, idx t]

/-- The gates' weight is the array's. -/
theorem read_wf (r : Fin 1024) (l : Fin 16) : (iblk m c 5 t : S1024x128.Idx → EReal) (ix2 r ⟨l, by omega⟩) = (m ((c : Thread nD τ).loc main_arg5) : S1024x16.Idx → EReal) (ix2 r l) := by
  have hi : (win0_5.blk t).view.emb (ix2 r ⟨l, by omega⟩ : S1024x128.Idx) = (ix2 r ⟨l, by omega⟩ : S1024x128.Idx) := by blk_ext [idx t]
  show V m c main_v1 ((win0_5.blk t).view.emb (ix2 r ⟨l, by omega⟩ : S1024x128.Idx)) = _
  rw [hi, V_wf]
  exact padded _ r l

/-- The gates' bias is the array's. -/
theorem read_bf (l : Fin 16) : (iblk m c 6 t : S1x16.Idx → EReal) (ix2 0 l) = (m ((c : Thread nD τ).loc main_arg6) : S16.Idx → EReal) (ix1 l) := by
  blk_simp [iblk]
  rw [V_bf]
  pointwise
  blk_point [idx t]

/-- The queries' weight is the array's. -/
theorem read_wq (r l : Fin 1024) : (iblk m c 7 t : S1024x1024.Idx → EReal) (ix2 r l) = (m ((c : Thread nD τ).loc main_arg7) : S1024x1024.Idx → EReal) (ix2 r l) := by
  blk_point [iblk, V, idx t]

/-- The keys' head gains are the array's, repeated. -/
theorem read_gk (l : Fin 1024) : (iblk m c 8 t : S1x1024.Idx → EReal) (ix2 0 l) = (m ((c : Thread nD τ).loc main_arg8) : S64.Idx → EReal) (ix1 ⟨l.val % 64, by omega⟩) := by
  blk_simp [iblk]
  rw [V_gk]
  pointwise
  blk_point [idx t]

/-- The queries' head gains are the array's, repeated. -/
theorem read_gn (l : Fin 1024) : (iblk m c 9 t : S1x1024.Idx → EReal) (ix2 0 l) = (m ((c : Thread nD τ).loc main_arg9) : S64.Idx → EReal) (ix1 ⟨l.val % 64, by omega⟩) := by
  blk_simp [iblk]
  rw [V_gn]
  pointwise
  blk_point [idx t]

/-- The heads' weights. -/
theorem read_e (a : Fin 1024) (h : Fin 128) : (iblk m c 10 t : S1024x128.Idx → EReal) (ix2 a h) = if a.val / 64 = h.val then ((1 / 64 : ℝ) : EReal) else 0 := by
  have hi : (win0_10.blk t).view.emb (ix2 a h : S1024x128.Idx) = (ix2 a h : S1024x128.Idx) := by blk_ext [idx t]
  show V m c main_v11 ((win0_10.blk t).view.emb (ix2 a h : S1024x128.Idx)) = _
  rw [hi, V_e]
  pointwise [member_at]
  by_cases e : a.val / 64 = h.val
  · rw [if_pos e, if_pos e, ← weight]; rfl
  · rw [if_neg e, if_neg e]; rfl

/-- The heads' membership, twice. -/
theorem read_f (j : Fin 256) (a : Fin 1024) : (iblk m c 11 t : S256x1024.Idx → EReal) (ix2 j a) = if j.val % 128 = a.val / 64 then (1 : EReal) else 0 := by
  have hi : (win0_11.blk t).view.emb (ix2 j a : S256x1024.Idx) = (ix2 j a : S256x1024.Idx) := by blk_ext [idx t]
  show V m c main_v16 ((win0_11.blk t).view.emb (ix2 j a : S256x1024.Idx)) = _
  rw [hi, V_f]
  pointwise [member_at]
  by_cases e : j.val % 128 = a.val / 64
  · rw [if_pos e, if_pos e.symm]
    exact (congrArg _ (Nat.cast_one)).trans EReal.coe_one
  · rw [if_neg e, if_neg (Ne.symm e)]
    exact (congrArg _ (Nat.cast_zero)).trans EReal.coe_zero

/-- Where the keys' block lies. -/
theorem place_k (hb : (grid0.coords t 0).val < 16) (hj : (grid0.coords t 1).val < 8) (r : Fin 512) (l : Fin 1024) : (win0_12.blk t).view.emb (ix3 0 r l : S1x512x1024.Idx) = (ix3 ⟨(grid0.coords t 0).val, hb⟩ ⟨512 * (grid0.coords t 1).val + r, by omega⟩ l : S16x4096x1024.Idx) := by
  blk_ext [idx t]

/-- Where the values' block lies. -/
theorem place_v (hb : (grid0.coords t 0).val < 16) (hj : (grid0.coords t 1).val < 8) (r : Fin 512) (l : Fin 1024) : (win0_13.blk t).view.emb (ix3 0 r l : S1x512x1024.Idx) = (ix3 ⟨(grid0.coords t 0).val, hb⟩ ⟨512 * (grid0.coords t 1).val + r, by omega⟩ l : S16x4096x1024.Idx) := by
  blk_ext [idx t]

/-- Where the gates' block lies. -/
theorem place_f (hb : (grid0.coords t 0).val < 16) (hj : (grid0.coords t 1).val < 8) (r : Fin 512) (l : Fin 16) : (win0_14.blk t).view.emb (ix3 0 r l : S1x512x16.Idx) = (ix3 ⟨(grid0.coords t 0).val, hb⟩ ⟨512 * (grid0.coords t 1).val + r, by omega⟩ l : S16x4096x16.Idx) := by
  blk_ext [idx t]

/-- Where the queries' block lies. -/
theorem place_q (hb : (grid0.coords t 0).val < 16) (hj : (grid0.coords t 1).val < 8) (p : Fin 8) (r : Fin 512) (l : Fin 128) : (win0_15.blk t).view.emb (ix4 0 p r l : S1x8x512x128.Idx)
    = (ix4 ⟨(grid0.coords t 0).val, hb⟩ p ⟨512 * (grid0.coords t 1).val + r, by omega⟩ l : S16x8x4096x128.Idx) := by
  blk_ext [idx t]

/-- Where the paired keys' block lies. -/
theorem place_b (hb : (grid0.coords t 0).val < 16) (hj : (grid0.coords t 1).val < 8) (p : Fin 8) (r : Fin 512) (l : Fin 128) : (win0_16.blk t).view.emb (ix4 0 p r l : S1x8x512x128.Idx)
    = (ix4 ⟨(grid0.coords t 0).val, hb⟩ p ⟨512 * (grid0.coords t 1).val + r, by omega⟩ l : S16x8x4096x128.Idx) := by
  blk_ext [idx t]

/-- Where the transposed values' block lies. -/
theorem place_t (hb : (grid0.coords t 0).val < 16) (hj : (grid0.coords t 1).val < 8) (l : Fin 1024) (r : Fin 512) : (win0_17.blk t).view.emb (ix3 0 l r : S1x1024x512.Idx)
    = (ix3 ⟨(grid0.coords t 0).val, hb⟩ l ⟨512 * (grid0.coords t 1).val + r, by omega⟩ : S16x1024x4096.Idx) := by
  blk_ext [idx t]

/-- A tile of the keys' products is the array's. -/
theorem tile_k (hb : (grid0.coords t 0).val < 16) (hj : (grid0.coords t 1).val < 8) (r : Fin 512) (l : Fin 1024) : k0_pay7 (iblk m c 0 t) (iblk m c 1 t) (iblk m c 3 t) (ix2 r l)
    = Cert.ReferenceKvqIdeal.Value.prod (Cert.ReferenceKvqIdeal.Value.normed (m ((c : Thread nD τ).loc main_arg0)) (m ((c : Thread nD τ).loc main_arg1))) (m ((c : Thread nD τ).loc main_arg3)) (ix3 ⟨(grid0.coords t 0).val, hb⟩ ⟨512 * (grid0.coords t 1).val + r, by omega⟩ l) :=
  prod_tie (b := ⟨(grid0.coords t 0).val, hb⟩) (ρ := fun r => ⟨512 * (grid0.coords t 1).val + r, by omega⟩) (normed_tie (read_x m c t hb hj) (read_g m c t)) (read_wk m c t) r l

/-- A tile of the keys is the array's. -/
theorem tile_hk (hb : (grid0.coords t 0).val < 16) (hj : (grid0.coords t 1).val < 8) (r : Fin 512) (l : Fin 1024) :
    k0_pay12 (k0_pay7 (iblk m c 0 t) (iblk m c 1 t) (iblk m c 3 t)) (k0_pay8 (iblk m c 8 t)) (k0_pay10 (iblk m c 0 t) (iblk m c 1 t) (iblk m c 3 t) (iblk m c 10 t))
      (k0_pay11 (iblk m c 0 t) (iblk m c 1 t) (iblk m c 3 t) (iblk m c 10 t)) (iblk m c 11 t) (ix2 r l)
      = Cert.ReferenceKvqIdeal.Value.headed (Cert.ReferenceKvqIdeal.Value.prod (Cert.ReferenceKvqIdeal.Value.normed (m ((c : Thread nD τ).loc main_arg0)) (m ((c : Thread nD τ).loc main_arg1))) (m ((c : Thread nD τ).loc main_arg3))) (m ((c : Thread nD τ).loc main_arg8)) (ix4 ⟨(grid0.coords t 0).val, hb⟩ ⟨512 * (grid0.coords t 1).val + r, by omega⟩ ⟨l / 64, by omega⟩ ⟨l % 64, by omega⟩) :=
  headed_tie (b := ⟨(grid0.coords t 0).val, hb⟩) (ρ := fun r => ⟨512 * (grid0.coords t 1).val + r, by omega⟩) (tile_k m c t hb hj) (read_e m c t) (read_f m c t) (read_gk m c t) r l

/-- A tile of the values is the array's. -/
theorem tile_v (hb : (grid0.coords t 0).val < 16) (hj : (grid0.coords t 1).val < 8) (r : Fin 512) (l : Fin 1024) : k0_pay24 (k0_pay5 (iblk m c 0 t) (iblk m c 1 t)) (iblk m c 4 t) (ix2 r l)
    = Cert.ReferenceKvqIdeal.Value.prod (Cert.ReferenceKvqIdeal.Value.normed (m ((c : Thread nD τ).loc main_arg0)) (m ((c : Thread nD τ).loc main_arg1))) (m ((c : Thread nD τ).loc main_arg4)) (ix3 ⟨(grid0.coords t 0).val, hb⟩ ⟨512 * (grid0.coords t 1).val + r, by omega⟩ l) :=
  prod_tie (b := ⟨(grid0.coords t 0).val, hb⟩) (ρ := fun r => ⟨512 * (grid0.coords t 1).val + r, by omega⟩) (normed_tie (read_x m c t hb hj) (read_g m c t)) (read_wv m c t) r l

/-- A tile of the gates is the array's. -/
theorem tile_f (hb : (grid0.coords t 0).val < 16) (hj : (grid0.coords t 1).val < 8) (r : Fin 512) (l : Fin 16) : k0_pay28 (k0_pay27 (k0_pay5 (iblk m c 0 t) (iblk m c 1 t)) (iblk m c 5 t)) (iblk m c 6 t) (ix3 0 r l)
    = Cert.ReferenceKvqIdeal.Value.logsig (Cert.ReferenceKvqIdeal.Value.gate (Cert.ReferenceKvqIdeal.Value.normed (m ((c : Thread nD τ).loc main_arg0)) (m ((c : Thread nD τ).loc main_arg1))) (m ((c : Thread nD τ).loc main_arg5)) (m ((c : Thread nD τ).loc main_arg6))) (ix3 ⟨(grid0.coords t 0).val, hb⟩ ⟨512 * (grid0.coords t 1).val + r, by omega⟩ l) :=
  logsig_tie (b := ⟨(grid0.coords t 0).val, hb⟩) (ρ := fun r => ⟨512 * (grid0.coords t 1).val + r, by omega⟩) (normed_tie (read_x m c t hb hj) (read_g m c t)) (read_wf m c t) (read_bf m c t) r l

/-- A tile of the queries is the array's. -/
theorem tile_q (hb : (grid0.coords t 0).val < 16) (hj : (grid0.coords t 1).val < 8) (r : Fin 512) (p : Fin 8) (l : Fin 128) :
    k0_pay33 (k0_pay29 (k0_pay6 (iblk m c 0 t) (iblk m c 2 t)) (iblk m c 7 t)) (k0_pay30 (iblk m c 9 t)) (k0_pay31 (k0_pay6 (iblk m c 0 t) (iblk m c 2 t)) (iblk m c 7 t) (iblk m c 10 t))
      (k0_pay32 (iblk m c 11 t)) (constant S512x1024 .f32 0x00000000#32) (ix2 r ⟨128 * p + l, by omega⟩)
      = Cert.ReferenceKvqIdeal.Value.scaled (Cert.ReferenceKvqIdeal.Value.headed (Cert.ReferenceKvqIdeal.Value.prod (Cert.ReferenceKvqIdeal.Value.normed (m ((c : Thread nD τ).loc main_arg0)) (m ((c : Thread nD τ).loc main_arg2))) (m ((c : Thread nD τ).loc main_arg7))) (m ((c : Thread nD τ).loc main_arg9))) (ix4 ⟨(grid0.coords t 0).val, hb⟩ p ⟨512 * (grid0.coords t 1).val + r, by omega⟩ l) :=
  scaled_tie (b := ⟨(grid0.coords t 0).val, hb⟩) (ρ := fun r => ⟨512 * (grid0.coords t 1).val + r, by omega⟩) (prod_tie (normed_tie (read_x m c t hb hj) (read_gq m c t)) (read_wq m c t)) (read_e m c t) (read_f m c t) (read_gn m c t) r p l

end Entry

end Cert.KernelKvqIdeal.Value

end
-- ==== Proof.KvqEnd.lean ====
/-
  The layer's shared projections: the arrays the kernel leaves are the reference's terms.
-/
module

public import proofs.«01_k».proof.Proof.Kvq

@[expose] public section

set_option maxRecDepth 16384

noncomputable section

open Idealize.ShloMosaic Idealize.ShloMosaic.TcCoe Idealize.SL.Sem
open Idealize.ShloMosaic.Pipeline (Dat)

namespace Cert.ReferenceKvqIdeal.Value

open Cert.ReferenceKvqIdeal Cert.ReferenceKvqIdeal.Gen

/-- Cutting a stream into heads and putting them back changes nothing. -/
theorem flat_cut (y : FVec Ideal S16x4096x1024 .f32) : flat (cut y) = y := by
  funext i
  obtain ⟨b, r, l, rfl⟩ : ∃ (b : Fin 16) (r : Fin 4096) (l : Fin 1024), i = (ix3 b r l : S16x4096x1024.Idx) :=
    ⟨i 0, i 1, i 2, by funext d; apply Fin.ext; fin_cases d <;> rfl⟩
  pointwise [flat, cut]
  blk_ext

end Cert.ReferenceKvqIdeal.Value

namespace Cert.KernelKvqIdeal.Value

open Cert.KernelKvqIdeal Cert.KernelKvqIdeal.Gen

variable (m : (ℓ : Loc nD τ sig) → Buf (Elt Ideal) ℓ) (c : Dev nD)

/-- The keys' array after the run is the reference's term. -/
theorem final_k : (dats m 0 c).arrAt 12 (cfgs 0).N = Cert.ReferenceKvqIdeal.Value.flat (Cert.ReferenceKvqIdeal.Value.headed (Cert.ReferenceKvqIdeal.Value.prod (Cert.ReferenceKvqIdeal.Value.normed (m ((c : Thread nD τ).loc main_arg0)) (m ((c : Thread nD τ).loc main_arg1))) (m ((c : Thread nD τ).loc main_arg3))) (m ((c : Thread nD τ).loc main_arg8))) := by
  refine (dats m 0 c).arrAt_eq_of_covers 12 _ (by decide +kernel) fun t _ y => ?_
  have hb : (grid0.coords t 0).val < 16 := (grid0.coords t 0).isLt
  have hj : (grid0.coords t 1).val < 8 := (grid0.coords t 1).isLt
  obtain ⟨r, l, rfl⟩ : ∃ (r : Fin 512) (l : Fin 1024), y = (ix3 0 r l : S1x512x1024.Idx) :=
    ⟨y 1, y 2, by funext d; apply Fin.ext; fin_cases d <;> first | rfl | exact Nat.lt_one_iff.1 (y 0).isLt⟩
  blk_simp
  rw [after0_12]
  unfold_out out0_12
  frame_out
  refine Eq.trans ?_ (congrArg _ (place_k t hb hj r l)).symm
  refine Eq.trans (b := _) ?_ ((tile_hk m c t hb hj r l).trans ?_)
  · pointwise [k0_pay13]
  · pointwise [Cert.ReferenceKvqIdeal.Value.flat]

/-- The values' array after the run is the reference's term. -/
theorem final_v : (dats m 0 c).arrAt 13 (cfgs 0).N = Cert.ReferenceKvqIdeal.Value.prod (Cert.ReferenceKvqIdeal.Value.normed (m ((c : Thread nD τ).loc main_arg0)) (m ((c : Thread nD τ).loc main_arg1))) (m ((c : Thread nD τ).loc main_arg4)) := by
  refine (dats m 0 c).arrAt_eq_of_covers 13 _ (by decide +kernel) fun t _ y => ?_
  have hb : (grid0.coords t 0).val < 16 := (grid0.coords t 0).isLt
  have hj : (grid0.coords t 1).val < 8 := (grid0.coords t 1).isLt
  obtain ⟨r, l, rfl⟩ : ∃ (r : Fin 512) (l : Fin 1024), y = (ix3 0 r l : S1x512x1024.Idx) :=
    ⟨y 1, y 2, by funext d; apply Fin.ext; fin_cases d <;> first | rfl | exact Nat.lt_one_iff.1 (y 0).isLt⟩
  blk_simp
  rw [after0_13]
  unfold_out out0_13
  frame_out
  refine Eq.trans ?_ (congrArg _ (place_v t hb hj r l)).symm
  refine Eq.trans ?_ (tile_v m c t hb hj r l)
  pointwise [k0_pay25]

/-- The gates' array after the run is the reference's term. -/
theorem final_f : (dats m 0 c).arrAt 14 (cfgs 0).N = Cert.ReferenceKvqIdeal.Value.logsig (Cert.ReferenceKvqIdeal.Value.gate (Cert.ReferenceKvqIdeal.Value.normed (m ((c : Thread nD τ).loc main_arg0)) (m ((c : Thread nD τ).loc main_arg1))) (m ((c : Thread nD τ).loc main_arg5)) (m ((c : Thread nD τ).loc main_arg6))) := by
  refine (dats m 0 c).arrAt_eq_of_covers 14 _ (by decide +kernel) fun t _ y => ?_
  have hb : (grid0.coords t 0).val < 16 := (grid0.coords t 0).isLt
  have hj : (grid0.coords t 1).val < 8 := (grid0.coords t 1).isLt
  obtain ⟨r, l, rfl⟩ : ∃ (r : Fin 512) (l : Fin 16), y = (ix3 0 r l : S1x512x16.Idx) :=
    ⟨y 1, y 2, by funext d; apply Fin.ext; fin_cases d <;> first | rfl | exact Nat.lt_one_iff.1 (y 0).isLt⟩
  blk_simp
  rw [after0_14]
  unfold_out out0_14
  frame_out
  refine Eq.trans ?_ (congrArg _ (place_f t hb hj r l)).symm
  exact tile_f m c t hb hj r l

/-- The transposed values' array after the run is the reference's term. -/
theorem final_t : (dats m 0 c).arrAt 17 (cfgs 0).N = Cert.ReferenceKvqIdeal.Value.turned (Cert.ReferenceKvqIdeal.Value.prod (Cert.ReferenceKvqIdeal.Value.normed (m ((c : Thread nD τ).loc main_arg0)) (m ((c : Thread nD τ).loc main_arg1))) (m ((c : Thread nD τ).loc main_arg4))) := by
  refine (dats m 0 c).arrAt_eq_of_covers 17 _ (by decide +kernel) fun t _ y => ?_
  have hb : (grid0.coords t 0).val < 16 := (grid0.coords t 0).isLt
  have hj : (grid0.coords t 1).val < 8 := (grid0.coords t 1).isLt
  obtain ⟨l, r, rfl⟩ : ∃ (l : Fin 1024) (r : Fin 512), y = (ix3 0 l r : S1x1024x512.Idx) :=
    ⟨y 1, y 2, by funext d; apply Fin.ext; fin_cases d <;> first | rfl | exact Nat.lt_one_iff.1 (y 0).isLt⟩
  blk_simp
  rw [after0_17]
  unfold_out out0_17
  frame_out
  refine Eq.trans ?_ (congrArg _ (place_t t hb hj l r)).symm
  refine Eq.trans ?_ ((tile_v m c t hb hj r l).trans ?_)
  · pointwise [k0_pay26]
  · pointwise [Cert.ReferenceKvqIdeal.Value.turned]

set_option maxHeartbeats 1000000 in
/-- The queries' stores are the pairs of heads of one tile. -/
theorem rows_q (x0 : Vec Ideal S1x512x1024 .f32) (x1 x2 : Vec Ideal S1x1024 .f32) (x3 x4 : Vec Ideal S1024x1024 .bf16) (x5 : Vec Ideal S1024x128 .bf16) (x6 : Vec Ideal S1x16 .f32)
    (x7 : Vec Ideal S1024x1024 .bf16) (x8 x9 : Vec Ideal S1x1024 .f32) (x10 : Vec Ideal S1024x128 .bf16) (x11 : Vec Ideal S256x1024 .bf16) (p : Fin 8) (r : Fin 512) (l : Fin 128) :
    out0_15 x0 x1 x2 x3 x4 x5 x6 x7 x8 x9 x10 x11 (ix4 0 p r l) = k0_pay33 (k0_pay29 (k0_pay6 x0 x2) x7) (k0_pay30 x9) (k0_pay31 (k0_pay6 x0 x2) x7 x10)
      (k0_pay32 x11) (constant S512x1024 .f32 0x00000000#32) (ix2 r ⟨128 * p + l, by omega⟩) := by
  unfold out0_15
  canon_tiles x h
  all_goals
    change p.val = _ at h1
    change r.val = _ at h2
    change l.val = _ at h3
    open_payloads
    pointwise
    blk_ext <;> omega

/-- The queries' array after the run is the reference's term. -/
theorem final_q : (dats m 0 c).arrAt 15 (cfgs 0).N = Cert.ReferenceKvqIdeal.Value.scaled (Cert.ReferenceKvqIdeal.Value.headed (Cert.ReferenceKvqIdeal.Value.prod (Cert.ReferenceKvqIdeal.Value.normed (m ((c : Thread nD τ).loc main_arg0)) (m ((c : Thread nD τ).loc main_arg2))) (m ((c : Thread nD τ).loc main_arg7))) (m ((c : Thread nD τ).loc main_arg9))) := by
  refine (dats m 0 c).arrAt_eq_of_covers 15 _ (by decide +kernel) fun t _ y => ?_
  have hb : (grid0.coords t 0).val < 16 := (grid0.coords t 0).isLt
  have hj : (grid0.coords t 1).val < 8 := (grid0.coords t 1).isLt
  obtain ⟨p, r, l, rfl⟩ : ∃ (p : Fin 8) (r : Fin 512) (l : Fin 128), y = (ix4 0 p r l : S1x8x512x128.Idx) :=
    ⟨y 1, y 2, y 3, by funext d; apply Fin.ext; fin_cases d <;> first | rfl | exact Nat.lt_one_iff.1 (y 0).isLt⟩
  blk_simp
  rw [after0_15]
  refine Eq.trans ?_ (congrArg _ (place_q t hb hj p r l)).symm
  refine Eq.trans ?_ (tile_q m c t hb hj r p l)
  exact rows_q _ _ _ _ _ _ _ _ _ _ _ _ p r l

set_option maxHeartbeats 1000000 in
/-- The paired keys' stores are the pairs of heads of one tile. -/
theorem rows_b (x0 : Vec Ideal S1x512x1024 .f32) (x1 x2 : Vec Ideal S1x1024 .f32) (x3 x4 : Vec Ideal S1024x1024 .bf16) (x5 : Vec Ideal S1024x128 .bf16) (x6 : Vec Ideal S1x16 .f32)
    (x7 : Vec Ideal S1024x1024 .bf16) (x8 x9 : Vec Ideal S1x1024 .f32) (x10 : Vec Ideal S1024x128 .bf16) (x11 : Vec Ideal S256x1024 .bf16) (p : Fin 8) (r : Fin 512) (l : Fin 128) :
    out0_16 x0 x1 x2 x3 x4 x5 x6 x7 x8 x9 x10 x11 (ix4 0 p r l) = k0_pay12 (k0_pay7 x0 x1 x3) (k0_pay8 x8) (k0_pay10 x0 x1 x3 x10)
      (k0_pay11 x0 x1 x3 x10) x11 (ix2 r ⟨128 * p + l, by omega⟩) := by
  unfold out0_16
  canon_tiles x h
  all_goals
    change p.val = _ at h1
    change r.val = _ at h2
    change l.val = _ at h3
    open_payloads
    pointwise
    blk_ext <;> omega

/-- The paired keys' array after the run is the reference's term. -/
theorem final_b : (dats m 0 c).arrAt 16 (cfgs 0).N = Cert.ReferenceKvqIdeal.Value.pairs (Cert.ReferenceKvqIdeal.Value.flat (Cert.ReferenceKvqIdeal.Value.headed (Cert.ReferenceKvqIdeal.Value.prod (Cert.ReferenceKvqIdeal.Value.normed (m ((c : Thread nD τ).loc main_arg0)) (m ((c : Thread nD τ).loc main_arg1))) (m ((c : Thread nD τ).loc main_arg3))) (m ((c : Thread nD τ).loc main_arg8)))) := by
  refine (dats m 0 c).arrAt_eq_of_covers 16 _ (by decide +kernel) fun t _ y => ?_
  have hb : (grid0.coords t 0).val < 16 := (grid0.coords t 0).isLt
  have hj : (grid0.coords t 1).val < 8 := (grid0.coords t 1).isLt
  obtain ⟨p, r, l, rfl⟩ : ∃ (p : Fin 8) (r : Fin 512) (l : Fin 128), y = (ix4 0 p r l : S1x8x512x128.Idx) :=
    ⟨y 1, y 2, y 3, by funext d; apply Fin.ext; fin_cases d <;> first | rfl | exact Nat.lt_one_iff.1 (y 0).isLt⟩
  blk_simp
  rw [after0_16]
  refine Eq.trans ?_ (congrArg _ (place_b t hb hj p r l)).symm
  refine Eq.trans ?_ ((tile_hk m c t hb hj r ⟨128 * p + l, by omega⟩).trans (by pointwise [Cert.ReferenceKvqIdeal.Value.pairs, Cert.ReferenceKvqIdeal.Value.flat]; blk_ext))
  exact rows_b _ _ _ _ _ _ _ _ _ _ _ _ p r l

/-- The program runs and its six results are the reference's terms. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v31_0) = Cert.ReferenceKvqIdeal.Value.flat (Cert.ReferenceKvqIdeal.Value.headed (Cert.ReferenceKvqIdeal.Value.prod (Cert.ReferenceKvqIdeal.Value.normed (m ((c : Thread nD τ).loc main_arg0)) (m ((c : Thread nD τ).loc main_arg1))) (m ((c : Thread nD τ).loc main_arg3))) (m ((c : Thread nD τ).loc main_arg8)))
      ∧ r.2.mem ((c.tc : Thread nD τ).loc main_v31_1) = Cert.ReferenceKvqIdeal.Value.prod (Cert.ReferenceKvqIdeal.Value.normed (m ((c : Thread nD τ).loc main_arg0)) (m ((c : Thread nD τ).loc main_arg1))) (m ((c : Thread nD τ).loc main_arg4))
      ∧ r.2.mem ((c.tc : Thread nD τ).loc main_v31_2) = Cert.ReferenceKvqIdeal.Value.logsig (Cert.ReferenceKvqIdeal.Value.gate (Cert.ReferenceKvqIdeal.Value.normed (m ((c : Thread nD τ).loc main_arg0)) (m ((c : Thread nD τ).loc main_arg1))) (m ((c : Thread nD τ).loc main_arg5)) (m ((c : Thread nD τ).loc main_arg6)))
      ∧ r.2.mem ((c.tc : Thread nD τ).loc main_v31_3) = Cert.ReferenceKvqIdeal.Value.scaled (Cert.ReferenceKvqIdeal.Value.headed (Cert.ReferenceKvqIdeal.Value.prod (Cert.ReferenceKvqIdeal.Value.normed (m ((c : Thread nD τ).loc main_arg0)) (m ((c : Thread nD τ).loc main_arg2))) (m ((c : Thread nD τ).loc main_arg7))) (m ((c : Thread nD τ).loc main_arg9)))
      ∧ r.2.mem ((c.tc : Thread nD τ).loc main_v31_4) = Cert.ReferenceKvqIdeal.Value.pairs (Cert.ReferenceKvqIdeal.Value.flat (Cert.ReferenceKvqIdeal.Value.headed (Cert.ReferenceKvqIdeal.Value.prod (Cert.ReferenceKvqIdeal.Value.normed (m ((c : Thread nD τ).loc main_arg0)) (m ((c : Thread nD τ).loc main_arg1))) (m ((c : Thread nD τ).loc main_arg3))) (m ((c : Thread nD τ).loc main_arg8))))
      ∧ r.2.mem ((c.tc : Thread nD τ).loc main_v31_5) = Cert.ReferenceKvqIdeal.Value.turned (Cert.ReferenceKvqIdeal.Value.prod (Cert.ReferenceKvqIdeal.Value.normed (m ((c : Thread nD τ).loc main_arg0)) (m ((c : Thread nD τ).loc main_arg1))) (m ((c : Thread nD τ).loc main_arg4)))) :=
  (θ_run defs _ _).mono (fun _ h c => ⟨((h c).1 12).trans (final_k m c), ((h c).1 13).trans (final_v m c), ((h c).1 14).trans (final_f m c),
    ((h c).1 15).trans (final_q m c), ((h c).1 16).trans (final_b m c), ((h c).1 17).trans (final_t m c)⟩) (run_main (F := Ideal) m ρ)

end Cert.KernelKvqIdeal.Value

end
-- ==== Proof.Pool.lean ====
/-
  The pooling mixer of the layer's first call, the reference's side: a prefix sum along the tokens and the differences
  of it that are the sums over trailing windows.
-/
module

public import proofs.«01_k».proof.Proof.Out
public import proofs.«01_k».proof.Proof.Kvq
public import proofs.«01_k».proof.Proof.Gen.ReferencePoolIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.StableHlo Idealize.SL.Sem

namespace Cert.ReferencePoolIdeal.Value

open Cert.ReferencePoolIdeal Cert.ReferencePoolIdeal.Gen

/-- Adding the entries of a list one by one adds their sum. -/
theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- A sum over a window that ends at a position, zero before the start, is the sum up to the position. -/
theorem window_prefix (f : ℕ → EReal) (s : ℕ) (hs : s < 4111) :
    ∑ k ∈ Finset.range 4111, (if 4110 ≤ s + k then f (s + k - 4110) else 0) = ∑ i ∈ Finset.range (s + 1), f i := by
  rw [show Finset.range 4111 = Finset.range ((4110 - s) + (s + 1)) from congrArg _ (by omega), Finset.sum_range_add,
    Finset.sum_eq_zero (fun k hk => if_neg (by have := Finset.mem_range.1 hk; omega)), zero_add]
  refine Finset.sum_congr rfl fun k hk => ?_
  rw [if_pos (by omega)]
  exact congrArg f (by omega)

/-- A prefix sum along the tokens, read at an index. -/
theorem prefix_read (x : FVec Ideal S16x4111x1024 .f32) (v : FVec Ideal S_ .f32) (hv : ∀ i, v i = 0) (f : ℕ → EReal) (b : Fin 16) (l : Fin 1024)
    (hx : ∀ i : Fin 4111, x (ix3 b i l) = f i.val) (s : Fin 4111) :
    Host.reduceWindowAdd ![1, 4111, 1] ![1, 1, 1] ![0, 4110, 0] ![0, 0, 0] x v reduceWindows_S16x4111x1024_S16x4111x1024_w1s1p0_0_w4111s1p4110_0_w1s1p0_0 h_S_ (ix3 b s l)
      = ∑ i ∈ Finset.range (s.val + 1), f i := by
  have hs := s.isLt
  unfold Host.reduceWindowAdd
  rw [Ideal.hostReduceWindowAdd_def, hv]
  unfold Ideal.hostReduceWindowAdd Host.reduceWindow
  dsimp only
  refine (foldl_add _ _ _).trans ?_
  rw [zero_add]
  have hw : ∀ n, ((⟨3, ![1, 4111, 1]⟩ : Shape).rowMajor.symm n 0).val = 0 ∧ ((⟨3, ![1, 4111, 1]⟩ : Shape).rowMajor.symm n 1).val = n.val
      ∧ ((⟨3, ![1, 4111, 1]⟩ : Shape).rowMajor.symm n 2).val = 0 := fun n => by
    have h := Shape.rowMajor_val_three ((⟨3, ![1, 4111, 1]⟩ : Shape).rowMajor.symm n)
    rw [Equiv.apply_symm_apply] at h
    have a0 : ((⟨3, ![1, 4111, 1]⟩ : Shape).rowMajor.symm n 0).val < 1 := ((⟨3, ![1, 4111, 1]⟩ : Shape).rowMajor.symm n 0).isLt
    have a2 : ((⟨3, ![1, 4111, 1]⟩ : Shape).rowMajor.symm n 2).val < 1 := ((⟨3, ![1, 4111, 1]⟩ : Shape).rowMajor.symm n 2).isLt
    change n.val = (((⟨3, ![1, 4111, 1]⟩ : Shape).rowMajor.symm n 0).val * 4111 + ((⟨3, ![1, 4111, 1]⟩ : Shape).rowMajor.symm n 1).val) * 1
      + ((⟨3, ![1, 4111, 1]⟩ : Shape).rowMajor.symm n 2).val at h
    omega
  refine Eq.trans (b := ∑ n : Fin (⟨3, ![1, 4111, 1]⟩ : Shape).numel, (fun k : ℕ => if 4110 ≤ s.val + k then f (s.val + k - 4110) else 0) n.val) ?_ ?_
  · rw [Fin.sum_univ_def]
    refine congrArg List.sum (List.map_congr_left fun n _ => ?_)
    obtain ⟨w0, w1, w2⟩ := hw n
    change _ = if 4110 ≤ s.val + n.val then f (s.val + n.val - 4110) else 0
    split
    · next hin =>
      have h1 : 4110 ≤ s.val * 1 + ((⟨3, ![1, 4111, 1]⟩ : Shape).rowMajor.symm n 1).val ∧ s.val * 1 + ((⟨3, ![1, 4111, 1]⟩ : Shape).rowMajor.symm n 1).val - 4110 < 4111 := hin 1
      rw [w1] at h1
      rw [if_pos (by omega)]
      refine (congrArg x (funext fun a => Fin.ext ?_)).trans (hx ⟨s.val + n.val - 4110, by omega⟩)
      match a with
      | ⟨0, _⟩ =>
        show b.val * 1 + ((⟨3, ![1, 4111, 1]⟩ : Shape).rowMajor.symm n 0).val - 0 = b.val
        rw [w0]
        omega
      | ⟨1, _⟩ =>
        show s.val * 1 + ((⟨3, ![1, 4111, 1]⟩ : Shape).rowMajor.symm n 1).val - 4110 = s.val + n.val - 4110
        rw [w1]
        omega
      | ⟨2, _⟩ =>
        show l.val * 1 + ((⟨3, ![1, 4111, 1]⟩ : Shape).rowMajor.symm n 2).val - 0 = l.val
        rw [w2]
        omega
    · next hin =>
      have hn : n.val < 4111 := lt_of_lt_of_eq n.isLt (by decide)
      have hb := b.isLt
      have hl := l.isLt
      rw [if_neg fun hle => hin fun a => by
        match a with
        | ⟨0, _⟩ =>
          show 0 ≤ b.val * 1 + ((⟨3, ![1, 4111, 1]⟩ : Shape).rowMajor.symm n 0).val ∧ b.val * 1 + ((⟨3, ![1, 4111, 1]⟩ : Shape).rowMajor.symm n 0).val - 0 < 16
          rw [w0]
          omega
        | ⟨1, _⟩ =>
          show 4110 ≤ s.val * 1 + ((⟨3, ![1, 4111, 1]⟩ : Shape).rowMajor.symm n 1).val ∧ s.val * 1 + ((⟨3, ![1, 4111, 1]⟩ : Shape).rowMajor.symm n 1).val - 4110 < 4111
          rw [w1]
          omega
        | ⟨2, _⟩ =>
          show 0 ≤ l.val * 1 + ((⟨3, ![1, 4111, 1]⟩ : Shape).rowMajor.symm n 2).val ∧ l.val * 1 + ((⟨3, ![1, 4111, 1]⟩ : Shape).rowMajor.symm n 2).val - 0 < 1024
          rw [w2]
          omega]
  · refine (Fin.sum_univ_eq_sum_range (fun k : ℕ => if 4110 ≤ s.val + k then f (s.val + k - 4110) else 0) _).trans ?_
    rw [show (⟨3, ![1, 4111, 1]⟩ : Shape).numel = 4111 by decide]
    exact window_prefix f s.val hs

/-- A sum of real numbers is a real number. -/
theorem sum_coe (e : ℕ → ℝ) (s : Finset ℕ) : ∑ i ∈ s, (e i : EReal) = ((∑ i ∈ s, e i : ℝ) : EReal) := by
  classical
  induction s using Finset.induction_on with
  | empty => simp
  | insert a s ha ih => rw [Finset.sum_insert ha, Finset.sum_insert ha, ih, EReal.coe_add]

/-- The difference of two prefix sums of real numbers is the sum between them, counted from its end. -/
theorem prefix_sub (f : ℕ → EReal) (hf : ∀ i, ∃ a : ℝ, f i = (a : EReal)) (p w : ℕ) :
    (∑ i ∈ Finset.range (p + w), f i) - (∑ i ∈ Finset.range p, f i) = ∑ k ∈ Finset.range w, f (p + (w - 1 - k)) := by
  choose e he using hf
  simp only [he, sum_coe]
  rw [← EReal.coe_sub, Finset.sum_range_add, add_sub_cancel_left, Finset.sum_range_reflect (fun k => e (p + k))]

/-- The normalized stream. -/
abbrev normed := Cert.ReferenceOutIdeal.Value.normed

/-- The stream after a history of zeros. -/
def led (h : FVec Ideal S16x4096x1024 .f32) : FVec Ideal S16x4111x1024 .f32 :=
  concatenate S16x4111x1024 1 [⟨S16x15x1024, (broadcastInDim S16x15x1024 ![] bcast_S_S16x15x1024 (constant S_ .f32 0x00000000#32))⟩, ⟨S16x4096x1024, h⟩] concatenates_S16x15x1024_S16x4096x1024_S16x4111x1024_d1

/-- The prefix sums, from the empty one. -/
def sums (h : FVec Ideal S16x4096x1024 .f32) : FVec Ideal S16x4112x1024 .f32 :=
  pad S16x4112x1024 ![0, 1, 0] ![0, 0, 0] ![0, 0, 0] (Host.reduceWindowAdd ![1, 4111, 1] ![1, 1, 1] ![0, 4110, 0] ![0, 0, 0] (led h) (broadcastInDim S_ ![] bcast_S_S_ (constant S_ .f32 0x00000000#32)) reduceWindows_S16x4111x1024_S16x4111x1024_w1s1p0_0_w4111s1p4110_0_w1s1p0_0 h_S_) (sitofp .f32 (constantI S_ 32 0#32)) pads_S16x4111x1024_S16x4112x1024_000_100_000 h_S_

/-- One lane's stream after a history of zeros, by position. -/
def lane (h : FVec Ideal S16x4096x1024 .f32) (b : Fin 16) (l : Fin 1024) (i : ℕ) : EReal :=
  if hi : 15 ≤ i ∧ i < 4111 then h (ix3 b ⟨i - 15, by omega⟩ l) else 0

/-- The stream after a history of zeros, read at an index. -/
theorem led_read (h : FVec Ideal S16x4096x1024 .f32) (b : Fin 16) (i : Fin 4111) (l : Fin 1024) : led h (ix3 b i l) = lane h b l i.val := by
  have hi := i.isLt
  pointwise [led]
  unfold lane
  by_cases h15 : i.val < 15
  · rw [dif_pos h15, dif_neg (by omega)]
  · rw [dif_neg h15, dif_pos (by omega)]

/-- The prefix sums, read at an index. -/
theorem sums_read (h : FVec Ideal S16x4096x1024 .f32) (b : Fin 16) (e : Fin 4112) (l : Fin 1024) : sums h (ix3 b e l) = ∑ i ∈ Finset.range e.val, lane h b l i := by
  have he := e.isLt
  pointwise [sums]
  by_cases h0 : e.val = 0
  · rw [dif_neg (by omega), h0, Finset.range_zero, Finset.sum_empty]
    show (((0#32 : BitVec 32).toInt : ℝ) : EReal) = 0
    simp
  · rw [dif_pos (by omega)]
    refine (prefix_read (led h) _ (fun i => ?_) (lane h b l) b l (fun i => led_read h b i l) ⟨e.val - 1, by omega⟩).trans ?_
    · pointwise
    · exact congrArg (fun n => ∑ i ∈ Finset.range n, lane h b l i) (Nat.sub_add_cancel (by omega))

/-- How many tokens a window reaches, at each position. -/
def counts (n : BitVec 32) : FVec Ideal S16x4096x256 .f32 :=
  broadcastInDim S16x4096x256 ![0, 1, 2] bcast_S1x4096x1_S16x4096x256_0_1_2 (broadcastInDim S1x4096x1 ![1] bcast_S4096_S1x4096x1_1 (sitofp .f32 (minsi
    (addi (addi (broadcastInDim S4096 ![] bcast_S_S4096 (constantI S_ 32 0#32)) (iotaInDim S4096 32 0)) (broadcastInDim S4096 ![] bcast_S_S4096 (constantI S_ 32 1#32)))
    (broadcastInDim S4096 ![] bcast_S_S4096 (constantI S_ 32 n)))))

/-- One group of lanes mixed: the window's mean less the stream, times the group's weight. -/
def group (n : BitVec 32) (a z h : FVec Ideal S16x4096x256 .f32) (w : FVec Ideal S1x256x256 .f32) : FVec Ideal S16x4096x256 .f32 :=
  Host.dotGeneral dot_S16x4096x256_S256x256_S16x4096x256_2_0_01_1_n_n none (subf (Host.divf (subf a z) (counts n)) h) (shapeCast S256x256 w shapeCasts_S1x256x256_S256x256)

/-- The mixer's output, of the stream and its prefix sums. -/
def mixed (h : FVec Ideal S16x4096x1024 .f32) (p : FVec Ideal S16x4112x1024 .f32) (w : FVec Ideal S4x256x256 .f32) (s : FVec Ideal S1024 .f32) : FVec Ideal S16x4096x1024 .f32 :=
  mulf (concatenate S16x4096x1024 2 [
    ⟨S16x4096x256, group 2#32 (extractStridedSlice S16x4096x256 ![0, 0, 0] (extractStridedSlice S16x4096x1024 ![0, 16, 0] p slices_S16x4112x1024_S16x4096x1024_0_16_0) slices_S16x4096x1024_S16x4096x256_0_0_0)
      (extractStridedSlice S16x4096x256 ![0, 14, 0] p slices_S16x4112x1024_S16x4096x256_0_14_0) (extractStridedSlice S16x4096x256 ![0, 0, 0] h slices_S16x4096x1024_S16x4096x256_0_0_0)
      (extractStridedSlice S1x256x256 ![0, 0, 0] w slices_S4x256x256_S1x256x256_0_0_0)⟩,
    ⟨S16x4096x256, group 4#32 (extractStridedSlice S16x4096x256 ![0, 0, 256] (extractStridedSlice S16x4096x1024 ![0, 16, 0] p slices_S16x4112x1024_S16x4096x1024_0_16_0) slices_S16x4096x1024_S16x4096x256_0_0_256)
      (extractStridedSlice S16x4096x256 ![0, 12, 256] p slices_S16x4112x1024_S16x4096x256_0_12_256) (extractStridedSlice S16x4096x256 ![0, 0, 256] h slices_S16x4096x1024_S16x4096x256_0_0_256)
      (extractStridedSlice S1x256x256 ![1, 0, 0] w slices_S4x256x256_S1x256x256_1_0_0)⟩,
    ⟨S16x4096x256, group 8#32 (extractStridedSlice S16x4096x256 ![0, 0, 512] (extractStridedSlice S16x4096x1024 ![0, 16, 0] p slices_S16x4112x1024_S16x4096x1024_0_16_0) slices_S16x4096x1024_S16x4096x256_0_0_512)
      (extractStridedSlice S16x4096x256 ![0, 8, 512] p slices_S16x4112x1024_S16x4096x256_0_8_512) (extractStridedSlice S16x4096x256 ![0, 0, 512] h slices_S16x4096x1024_S16x4096x256_0_0_512)
      (extractStridedSlice S1x256x256 ![2, 0, 0] w slices_S4x256x256_S1x256x256_2_0_0)⟩,
    ⟨S16x4096x256, group 16#32 (extractStridedSlice S16x4096x256 ![0, 0, 768] (extractStridedSlice S16x4096x1024 ![0, 16, 0] p slices_S16x4112x1024_S16x4096x1024_0_16_0) slices_S16x4096x1024_S16x4096x256_0_0_768)
      (extractStridedSlice S16x4096x256 ![0, 0, 768] p slices_S16x4112x1024_S16x4096x256_0_0_768) (extractStridedSlice S16x4096x256 ![0, 0, 768] h slices_S16x4096x1024_S16x4096x256_0_0_768)
      (extractStridedSlice S1x256x256 ![3, 0, 0] w slices_S4x256x256_S1x256x256_3_0_0)⟩] concatenates_S16x4096x256_S16x4096x256_S16x4096x256_S16x4096x256_S16x4096x1024_d2)
    (broadcastInDim S16x4096x1024 ![0, 1, 2] bcast_S1x1x1024_S16x4096x1024_0_1_2 (broadcastInDim S1x1x1024 ![2] bcast_S1024_S1x1x1024_2 s))

/-- The stream with the mixer's output added. -/
def pooled (x : FVec Ideal S16x4096x1024 .f32) (g : FVec Ideal S1024 .f32) (w : FVec Ideal S4x256x256 .f32) (s : FVec Ideal S1024 .f32) : FVec Ideal S16x4096x1024 .f32 :=
  addf x (mixed (normed x g) (sums (normed x g)) w s)

/-- The stream's last tokens, which are the next call's history. -/
def state (h : FVec Ideal S16x4096x1024 .f32) : FVec Ideal S16x15x1024 .f32 :=
  extractStridedSlice S16x15x1024 ![0, 4096, 0] (led h) slices_S16x4111x1024_S16x15x1024_0_4096_0

variable (m : (ℓ : Loc nD τ sig) → Buf (Elt Ideal) ℓ) (c : Dev nD)

/-- The normalized stream, as the program computes it. -/
theorem v12_eq : res_main_v12 (F := Ideal) (launchContents m c) = normed (m ((c.tc : Thread nD τ).loc main_arg0)) (m ((c.tc : Thread nD τ).loc main_arg1)) := by
  unfold res_main_v12 normed Cert.ReferenceOutIdeal.Value.normed
  rfl

/-- The stream after the mixer, as the program computes it. -/
theorem v90_eq : res_main_v90 (F := Ideal) (launchContents m c) = pooled (m ((c.tc : Thread nD τ).loc main_arg0)) (m ((c.tc : Thread nD τ).loc main_arg1))
    (m ((c.tc : Thread nD τ).loc main_arg2)) (m ((c.tc : Thread nD τ).loc main_arg3)) := by
  unfold res_main_v90 res_main_v88 res_main_v20 res_main_v17 res_main_v16 res_main_v14 pooled mixed sums led
  rw [v12_eq]
  rfl

/-- The reference runs and its two results are these terms. -/
theorem run_terms (ρ : Dev nD → PrngReg) : θ_run (defs (F := Ideal)) (onTc (τ := τ) (main (F := Ideal))) ⟨m, fun _ => 0, ρ⟩ (fun r => ∀ c : Dev nD,
      r.2.mem ((c.tc : Thread nD τ).loc main_v109) = Cert.ReferenceOutIdeal.Value.ffn (pooled (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4)) (m ((c.tc : Thread nD τ).loc main_arg5))
        (m ((c.tc : Thread nD τ).loc main_arg6)) (m ((c.tc : Thread nD τ).loc main_arg7))
      ∧ r.2.mem ((c.tc : Thread nD τ).loc main_v89) = state (normed (m ((c.tc : Thread nD τ).loc main_arg0)) (m ((c.tc : Thread nD τ).loc main_arg1)))) :=
  (θ_run defs _ _).mono (fun r h c => ⟨(h c).1.trans (by
      unfold res_main_v104 res_main_v103 Cert.ReferenceOutIdeal.Value.ffn Cert.ReferenceOutIdeal.Value.down Cert.ReferenceOutIdeal.Value.gated Cert.ReferenceOutIdeal.Value.wide
        Cert.ReferenceOutIdeal.Value.normed
      rw [v90_eq]
      rfl), (h c).2.1.trans (by
      unfold res_main_v14 state led
      rw [v12_eq])⟩) (Cert.ReferencePoolIdeal.Value.run (F := Ideal) m ρ)

end Cert.ReferencePoolIdeal.Value

end
-- ==== Proof.PoolTile.lean ====
/-
  The pooling mixer of the layer's first call, a tile of tokens against the whole array: the kernel keeps the rows
  before a tile and adds the window's rows one by one.
-/
module

public import proofs.«01_k».proof.Proof.Pool
public import proofs.«01_k».proof.Proof.Gen.KernelPoolIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen
open Cert.ReferencePoolIdeal.Value (lane sums sums_read prefix_sub)

/-- A tile after its history of sixteen rows. -/
def ext (h : FVec Ideal S512x1024 .f32) (p : FVec Ideal S16x1024 .f32) : Vec Ideal S528x1024 .f32 :=
  View.canon [⟨Rect.unit ![16, 0] ![512, 1024] inb_S528x1024_S512x1024_16_0, h⟩, ⟨Rect.unit ![0, 0] ![16, 1024] inb_S528x1024_S16x1024_0_0, p⟩]

/-- The tile and its history, read at an index. -/
theorem ext_read (h : FVec Ideal S512x1024 .f32) (p : FVec Ideal S16x1024 .f32) (e : Fin 528) (l : Fin 1024) :
    ext h p (ix2 e l) = if he : e.val < 16 then p (ix2 ⟨e.val, he⟩ l) else h (ix2 ⟨e.val - 16, by omega⟩ l) := by
  unfold ext
  canon_tiles x hx using (View.cover_of_tiledBy _ ![16, 1024] (by sl_kernel_rfl) _)
  · have h0 : e.val = 16 + (x 0).val := hx0
    have h1 : l.val = (x 1).val := hx1
    rw [dif_neg (by omega)]
    refine congrArg h (funext fun d => Fin.ext ?_)
    fin_cases d
    · show (x 0).val = e.val - 16
      omega
    · exact h1.symm
  · have h0 : e.val = (x 0).val := hx0
    have h1 : l.val = (x 1).val := hx1
    rw [dif_pos (by omega)]
    refine congrArg p (funext fun d => Fin.ext ?_)
    fin_cases d
    · exact h0.symm
    · exact h1.symm

/-- One group of lanes mixed on a tile: the window's mean less the rows, times the group's weight. -/
def group (n : BitVec 32) (i : grid0.Coords) (q v : FVec Ideal S512x256 .f32) (w : FVec Ideal S1x256x256 .bf16) : FVec Ideal S512x256 .f32 :=
  matmul dot_S512x256_S256x256_S512x256_1_0_0_1_n_n none (truncf .bf16 (subf (divf q (broadcastTo S512x256 (sitofp .f32 (minsi
    (addi (k0_pay8 (iota .tc S512x1 32 [0] iota_S512x1_d0_w32) (k0_pay7 i)) (broadcast S512x1 1#32)) (broadcast S512x1 n)) : FVec Ideal S512x1 .f32) broadcasts_S512x1_S512x256)) v) bitsLt_bf16_f32)
    (shapeCast S256x256 w shapeCasts_S1x256x256_S256x256) (constant S512x256 .f32 0x00000000#32)

/-- Four groups of lanes side by side on a tile, scaled and added to the rows. -/
def pooled (x : FVec Ideal S512x1024 .f32) (a b c d : FVec Ideal S512x256 .f32) (s : FVec Ideal S1x1024 .f32) : FVec Ideal S512x1024 .f32 :=
  addf x (mulf (concatenate S512x1024 1 [⟨S512x256, a⟩, ⟨S512x256, b⟩, ⟨S512x256, c⟩, ⟨S512x256, d⟩] concatenates_S512x256_S512x256_S512x256_S512x256_S512x1024_d1)
    (broadcastTo S512x1024 (shapeCast S1x1024 s shapeCasts_S1x1024_S1x1024) broadcasts_S1x1024_S512x1024))

/-- The feed-forward of a tile. -/
def ffn (x : FVec Ideal S512x1024 .f32) (g : FVec Ideal S1x1024 .f32) (wg wu : FVec Ideal S1024x2816 .bf16) (wd : FVec Ideal S2816x1024 .bf16) : FVec Ideal S512x1024 .f32 :=
  Cert.KernelOutIdeal.Value.down x (Cert.KernelOutIdeal.Value.gated (Cert.KernelOutIdeal.Value.wide (Cert.KernelOutIdeal.Value.normed x g) wg) (Cert.KernelOutIdeal.Value.wide (Cert.KernelOutIdeal.Value.normed x g) wu)) wd

/-- What the body stores is the feed-forward of the mixed tile. -/
theorem pay14_eq (i : grid0.Coords) (x : FVec Ideal S512x1024 .f32) (a b c q v : FVec Ideal S512x256 .f32) (w : FVec Ideal S1x256x256 .bf16) (s g : FVec Ideal S1x1024 .f32)
    (wg wu : FVec Ideal S1024x2816 .bf16) (wd : FVec Ideal S2816x1024 .bf16) :
    k0_pay14 x a b c v (divf q (broadcastTo S512x256 (sitofp .f32 (minsi
      (addi (k0_pay8 (iota .tc S512x1 32 [0] iota_S512x1_d0_w32) (k0_pay7 i)) (broadcast S512x1 1#32)) (broadcast S512x1 16#32)) : FVec Ideal S512x1 .f32) broadcasts_S512x1_S512x256)) w s g wg wu wd
    = ffn (pooled x a b c (group 16#32 i q v w) s) g wg wu wd := by
  unfold k0_pay14 ffn pooled group Cert.KernelOutIdeal.Value.down Cert.KernelOutIdeal.Value.gated Cert.KernelOutIdeal.Value.wide Cert.KernelOutIdeal.Value.normed
  rfl

section Steps

variable {b : Fin 16} {j : Fin 8}

/-- How many tokens a window reaches, tile against array. -/
theorem count_tie (j : Fin 8) (r : Fin 512) : (0#32 + BitVec.ofNat 32 j.val * 512#32) + BitVec.ofNat 32 r.val = 0#32 + BitVec.ofNat 32 (512 * j.val + r.val) := by
  have hj := j.isLt
  have hr := r.isLt
  apply BitVec.eq_of_toNat_eq
  simp only [BitVec.toNat_add, BitVec.toNat_mul, BitVec.toNat_ofNat]
  omega

set_option maxHeartbeats 1000000 in
/-- One group of lanes, tile against array. -/
theorem group_tie {n : BitVec 32} {i : grid0.Coords} (hi : (i 1).val = j.val) {q v : FVec Ideal S512x256 .f32} {w : FVec Ideal S1x256x256 .bf16} {A Z H W}
    (hq : ∀ (r : Fin 512) l, q (ix2 r l) = A (ix3 b ⟨512 * j.val + r, by omega⟩ l) - Z (ix3 b ⟨512 * j.val + r, by omega⟩ l))
    (hv : ∀ (r : Fin 512) l, v (ix2 r l) = H (ix3 b ⟨512 * j.val + r, by omega⟩ l)) (hw : ∀ r l, w (ix3 0 r l) = W (ix3 0 r l)) (r : Fin 512) (l : Fin 256) :
    group n i q v w (ix2 r l) = Cert.ReferencePoolIdeal.Value.group n A Z H W (ix3 b ⟨512 * j.val + r, by omega⟩ l) := by
  pointwise [group, Cert.ReferencePoolIdeal.Value.group, Cert.ReferencePoolIdeal.Value.counts, k0_pay7, k0_pay8]
  simp only [hq, hv, hw, zero_add, hi]
  rw [show IntOp.addi (Scalar.addi 0#32 (Scalar.muli (BitVec.ofNat 32 j.val) 512#32)) (BitVec.ofNat 32 r.val) = IntOp.addi 0#32 (BitVec.ofNat 32 (512 * j.val + r.val)) from count_tie j r]

set_option maxHeartbeats 1000000 in
/-- The mixed stream, tile against array. -/
theorem concat_tie {a0 a1 a2 a3 : FVec Ideal S512x256 .f32} {A0 A1 A2 A3 : FVec Ideal Cert.ReferencePoolIdeal.S16x4096x256 .f32} {ρ : Fin 512 → Fin 4096}
    (h0 : ∀ r l, a0 (ix2 r l) = A0 (ix3 b (ρ r) l)) (h1 : ∀ r l, a1 (ix2 r l) = A1 (ix3 b (ρ r) l)) (h2 : ∀ r l, a2 (ix2 r l) = A2 (ix3 b (ρ r) l)) (h3 : ∀ r l, a3 (ix2 r l) = A3 (ix3 b (ρ r) l))
    (hc) (r : Fin 512) (l : Fin 1024) :
    concatenate S512x1024 1 [⟨S512x256, a0⟩, ⟨S512x256, a1⟩, ⟨S512x256, a2⟩, ⟨S512x256, a3⟩] concatenates_S512x256_S512x256_S512x256_S512x256_S512x1024_d1 (ix2 r l)
      = concatenate Cert.ReferencePoolIdeal.S16x4096x1024 2 [⟨Cert.ReferencePoolIdeal.S16x4096x256, A0⟩, ⟨Cert.ReferencePoolIdeal.S16x4096x256, A1⟩, ⟨Cert.ReferencePoolIdeal.S16x4096x256, A2⟩, ⟨Cert.ReferencePoolIdeal.S16x4096x256, A3⟩]
        hc (ix3 b (ρ r) l) := by
  pointwise
  split_ifs <;> simp only [h0, h1, h2, h3]

/-- The sum of a window's rows is the difference of two prefix sums. -/
theorem window_tie {h : FVec Ideal Cert.ReferencePoolIdeal.S16x4096x1024 .f32} (l : Fin 1024) (hh : ∀ i, ∃ a : ℝ, lane h b l i = (a : EReal)) (s w : ℕ) (hs : s < 4096) (hw : w ≤ 16) :
    sums h (ix3 b ⟨16 + s, by omega⟩ l) - sums h (ix3 b ⟨16 - w + s, by omega⟩ l) = ∑ k ∈ Finset.range w, lane h b l (15 + s - k) := by
  rw [sums_read, sums_read]
  refine (congrArg (fun n => (∑ i ∈ Finset.range n, lane h b l i) - ∑ i ∈ Finset.range (16 - w + s), lane h b l i) (show 16 + s = (16 - w + s) + w by omega)).trans ?_
  rw [prefix_sub _ hh]
  refine Finset.sum_congr rfl fun k hk => congrArg _ ?_
  have := Finset.mem_range.1 hk
  omega

/-- The rows of a group of lanes, read at an index. -/
theorem row_read (e : Vec Ideal S528x1024 .f32) (a c : ℕ) (ha : a ≤ 16) (hc : c ≤ 768) (hr : ∀ d : Fin S528x1024.rank, ![a, c] d + ![512, 256] d ≤ S528x1024.size d) (r : Fin 512) (l : Fin 256) :
    View.ld e (Rect.unit (s := S528x1024) ![a, c] ![512, 256] hr) (ix2 r l) = e (ix2 ⟨a + r, by omega⟩ ⟨c + l, by omega⟩) := by
  refine congrArg e (funext fun d => Fin.ext ?_)
  fin_cases d
  · exact congrArg (a + ·) (one_mul r.val)
  · exact congrArg (c + ·) (one_mul l.val)

end Steps

/-- Dividing by the stream's width is weighing by its reciprocal. -/
theorem div_width (x : EReal) : Ideal.div x (Ideal.ofBits FTy.f32 1149239296#32) = x * ((1 / 1024 : ℝ) : EReal) := by
  have h : Ideal.ofBits FTy.f32 1149239296#32 = ((1024 : ℝ) : EReal) := by
    simp [Ideal.ofBits, Ideal.ieee, -EReal.coe_mul]; norm_num
  rw [h, Ideal.div, if_neg (by exact_mod_cast (by norm_num : (1024 : ℝ) ≠ 0)), ← EReal.coe_inv, one_div]

/-- An entry over its row's root mean square is real, whatever the row: an infinite row is divided to zero. -/
theorem unit_real (Y : Fin 1024 → EReal) (c : Fin 1024) : ∃ a : ℝ, Y c * Ideal.rsqrt (Ideal.div (∑ x, Y x * Y x) (Ideal.ofBits FTy.f32 1149239296#32) + Ideal.ofBits FTy.f32 897988541#32) = (a : EReal) := by
  have hle : Y c * Y c ≤ ∑ x, Y x * Y x := Finset.single_le_sum (f := fun x => Y x * Y x) (fun x _ => Cert.KernelKvqIdeal.Value.square_nonneg _) (Finset.mem_univ c)
  have hp : (0 : ℝ) < 1 / 1024 := by norm_num
  have htop : Y c * Y c = ⊤ → Ideal.rsqrt (Ideal.div (∑ x, Y x * Y x) (Ideal.ofBits FTy.f32 1149239296#32) + Ideal.ofBits FTy.f32 897988541#32) = 0 := fun h => by
    rw [h, top_le_iff] at hle
    rw [hle, div_width, EReal.top_mul_coe_of_pos hp, EReal.top_add_of_ne_bot (ne_of_gt (lt_trans EReal.bot_lt_zero Cert.KernelKvqIdeal.Value.eps_pos.1))]
    rfl
  obtain ⟨r, hr⟩ := Cert.KernelKvqIdeal.Value.rsqrt_real (x := Ideal.div (∑ x, Y x * Y x) (Ideal.ofBits FTy.f32 1149239296#32))
    (by rw [div_width]; exact EReal.mul_nonneg (Finset.sum_nonneg fun x _ => Cert.KernelKvqIdeal.Value.square_nonneg _) (by exact_mod_cast hp.le))
    Cert.KernelKvqIdeal.Value.eps_pos.1 Cert.KernelKvqIdeal.Value.eps_pos.2
  induction h : Y c with
  | bot => exact ⟨0, by rw [htop (by rw [h]; simp), mul_zero]; rfl⟩
  | top => exact ⟨0, by rw [htop (by rw [h]; simp), mul_zero]; rfl⟩
  | coe a => exact ⟨a * r, by rw [hr, EReal.coe_mul]⟩

/-- Every lane of the normalized stream is real when the gains are. -/
theorem lane_real {x : FVec Ideal Cert.ReferencePoolIdeal.S16x4096x1024 .f32} {g : FVec Ideal Cert.ReferencePoolIdeal.S1024 .f32} (hg : ∀ l, ∃ a : ℝ, g (ix1 l) = (a : EReal)) (b : Fin 16) (l : Fin 1024) (i : ℕ) :
    ∃ a : ℝ, lane (Cert.ReferencePoolIdeal.Value.normed x g) b l i = (a : EReal) := by
  unfold lane
  split
  · pointwise [Cert.ReferencePoolIdeal.Value.normed, Cert.ReferenceOutIdeal.Value.normed]
    obtain ⟨a, ha⟩ := unit_real (fun k => x (ix3 b ⟨i - 15, by omega⟩ k)) l
    obtain ⟨d, hd⟩ := hg l
    exact ⟨a * d, by rw [EReal.coe_mul, ← ha, ← hd]⟩
  · exact ⟨0, rfl⟩

end Cert.KernelPoolIdeal.Value

end
-- ==== Proof.PoolRun.lean ====
/-
  The layer's first call, pooling mixer and feed-forward: what the kernel leaves in its results is the reference's terms
  of the arguments. The rows kept before each tile are followed from tile to tile.
-/
module

public import proofs.«01_k».proof.Proof.PoolTile
public import proofs.«01_k».proof.Proof.Gen.KernelPoolIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen
open Cert.ReferencePoolIdeal.Value (lane sums sums_read prefix_sub)

/-- The rows a number of tokens back, of one group of lanes. -/
def row (e : Vec Ideal S528x1024 .f32) (c : Fin 4) (k : ℕ) : FVec Ideal S512x256 .f32 :=
  View.ld e (Rect.unit (s := S528x1024) ![16 - k, 256 * c.val] ![512, 256] (fun d => by
    have := c.isLt
    fin_cases d
    · show 16 - k + 512 ≤ 528
      omega
    · show 256 * c.val + 256 ≤ 1024
      omega))

/-- The rows of a window added one by one. -/
def total (v : ℕ → FVec Ideal S512x256 .f32) : ℕ → FVec Ideal S512x256 .f32
  | 0 => v 0
  | n + 1 => addf (total v n) (v (n + 1))

/-- The rows added one by one are their sum. -/
theorem total_read (v : ℕ → FVec Ideal S512x256 .f32) (n : ℕ) (i : S512x256.Idx) : total v n i = ∑ k ∈ Finset.range (n + 1), v k i := by
  induction n with
  | zero => rw [Finset.sum_range_one]; rfl
  | succ n ih => rw [Finset.sum_range_succ, ← ih]; rfl

/-- The weight of one group of lanes. -/
def block (w : Vec Ideal S4x256x256 .bf16) (c : Fin 4) : FVec Ideal S1x256x256 .bf16 :=
  View.ld w (Rect.unit (s := S4x256x256) ![c.val, 0, 0] ![1, 256, 256] (fun d => by
    have := c.isLt
    fin_cases d
    · show c.val + 1 ≤ 4
      omega
    · exact le_refl 256
    · exact le_refl 256))

/-- One group of lanes mixed, of a tile and its history. -/
def grouped (n : ℕ) (i : grid0.Coords) (e : Vec Ideal S528x1024 .f32) (w : Vec Ideal S4x256x256 .bf16) (c : Fin 4) : FVec Ideal S512x256 .f32 :=
  group (BitVec.ofNat 32 n) i (total (row e c) (n - 1)) (row e c 0) (block w c)

/-- A tile of the stream after the mixer. -/
def mixed (i : grid0.Coords) (x : FVec Ideal S512x1024 .f32) (e : Vec Ideal S528x1024 .f32) (w : Vec Ideal S4x256x256 .bf16) (s : FVec Ideal S1x1024 .f32) : FVec Ideal S512x1024 .f32 :=
  pooled x (grouped 2 i e w 0) (grouped 4 i e w 1) (grouped 8 i e w 2) (grouped 16 i e w 3) s

/-- What the body stores is the feed-forward of the mixed tile. -/
theorem body_eq (i : grid0.Coords) (x : FVec Ideal S512x1024 .f32) (e : Vec Ideal S528x1024 .f32) (w : Vec Ideal S4x256x256 .bf16) (s g : FVec Ideal S1x1024 .f32)
    (wg wu : FVec Ideal S1024x2816 .bf16) (wd : FVec Ideal S2816x1024 .bf16) :
    k0_pay14 x (k0_pay9 (iota .tc S512x1 32 [0] iota_S512x1_d0_w32) (k0_pay7 i) (row e 0 0) (row e 0 1) (block w 0))
      (k0_pay10 (iota .tc S512x1 32 [0] iota_S512x1_d0_w32) (k0_pay7 i) (row e 1 0) (row e 1 1) (row e 1 2) (row e 1 3) (block w 1))
      (k0_pay11 (k0_pay8 (iota .tc S512x1 32 [0] iota_S512x1_d0_w32) (k0_pay7 i)) (row e 2 0) (row e 2 1) (row e 2 2) (row e 2 3) (row e 2 4) (row e 2 5) (row e 2 6) (row e 2 7) (block w 2))
      (row e 3 0) (k0_pay13 (k0_pay8 (iota .tc S512x1 32 [0] iota_S512x1_d0_w32) (k0_pay7 i)) (k0_pay12 (row e 3 0) (row e 3 1) (row e 3 2)) (row e 3 3) (row e 3 4) (row e 3 5) (row e 3 6)
        (row e 3 7) (row e 3 8) (row e 3 9) (row e 3 10) (row e 3 11) (row e 3 12) (row e 3 13) (row e 3 14) (row e 3 15)) (block w 3) s g wg wu wd
    = ffn (mixed i x e w s) g wg wu wd :=
  pay14_eq i x _ _ _ (total (row e 3) 15) (row e 3 0) (block w 3) s g wg wu wd

/-- A read of the rows kept is a read of the tile after its history. -/
theorem kept_read (v : View sig .tc .vmem S528x1024 .f32) (h : FVec Ideal S512x1024 .f32) (p : FVec Ideal S16x1024 .f32) (r : Rect S528x1024) :
    v.readCov (Val := Elt Ideal) [⟨Rect.unit ![16, 0] ![512, 1024] inb_S528x1024_S512x1024_16_0, h⟩, ⟨Rect.unit ![0, 0] ![16, 1024] inb_S528x1024_S16x1024_0_0, p⟩] r.toLoadRect = View.ld (ext h p) r :=
  View.readCov_eq_canon' v _ r.toLoadRect

variable (m : (ℓ : Loc nD τ sig) → Buf (Elt Ideal) ℓ) (c : Dev nD) (t : Fin cfg0.N)

/-- The first tile of a sequence is kept after a history of zeros. -/
theorem ext_A (h0 : t.val % 8 = 0) (h1 : ¬1 ≤ t.val % 8) : (outsAt0 m c t.val t.isLt).2.2 = ext (k0_pay5 (iblk m c 0 t) (iblk m c 2 t)) (k0_pay3 (iblk m c 1 t)) := by
  rw [outsAt0_A m c t h0 h1]
  dsimp only
  frame_out
  try rfl

/-- A later tile is kept after the last rows of the tile before it. -/
theorem ext_B (h0 : ¬ t.val % 8 = 0) (h1 : 1 ≤ t.val % 8) : (outsAt0 m c t.val t.isLt).2.2
   = ext (k0_pay5 (iblk m c 0 t) (iblk m c 2 t)) (k0_pay4 (View.ld (outsAt0 m c (t.val - 1) (by omega)).2.2 (Rect.unit (s := S528x1024) ![512, 0] ![16, 1024] inb_S528x1024_S16x1024_512_0))) := by
  rw [outsAt0_B m c t h0 h1]
  dsimp only
  frame_out
  exact congrArg (fun z => ext (k0_pay5 (iblk m c 0 t) (iblk m c 2 t)) (k0_pay4 (View.ld z (Rect.unit (s := S528x1024) ![512, 0] ![16, 1024] inb_S528x1024_S16x1024_512_0)))) (Memref.IsWhole.read_unread _ _)

/-- The blocks stored, of what the tile keeps. -/
theorem out_eq (e : Vec Ideal S528x1024 .f32) (he : (outsAt0 m c t.val t.isLt).2.2 = e) :
    (outsAt0 m c t.val t.isLt).1 = k0_pay1 (ffn (mixed (grid0.coords t) (k0_pay2 (iblk m c 0 t)) e (iblk m c 3 t) (iblk m c 4 t)) (iblk m c 5 t) (iblk m c 6 t) (iblk m c 7 t) (iblk m c 8 t))
      ∧ (outsAt0 m c t.val t.isLt).2.1 = k0_pay6 (View.ld e (Rect.unit (s := S528x1024) ![512, 0] ![16, 1024] inb_S528x1024_S16x1024_512_0)) := by
  by_cases h0 : t.val % 8 = 0
  · rw [ext_A m c t h0 (by omega)] at he
    rw [outsAt0_A m c t h0 (by omega)]
    dsimp only
    frame_out
    simp only [kept_read, he]
    exact ⟨congrArg k0_pay1 (body_eq (grid0.coords t) (k0_pay2 (iblk m c 0 t)) e (iblk m c 3 t) (iblk m c 4 t) (iblk m c 5 t) (iblk m c 6 t) (iblk m c 7 t) (iblk m c 8 t)), trivial⟩
  · rw [ext_B m c t h0 (by omega)] at he
    rw [outsAt0_B m c t h0 (by omega)]
    dsimp only
    frame_out
    simp only [kept_read, read_unread_whole, he]
    exact ⟨congrArg k0_pay1 (body_eq (grid0.coords t) (k0_pay2 (iblk m c 0 t)) e (iblk m c 3 t) (iblk m c 4 t) (iblk m c 5 t) (iblk m c 6 t) (iblk m c 7 t) (iblk m c 8 t)), trivial⟩

end Cert.KernelPoolIdeal.Value

end
-- ==== Proof.PoolEnd.lean ====
/-
  The layer's first call, pooling mixer and feed-forward: the tiles' reads of the arguments, the rows kept from tile to
  tile, and the arrays left at the end.
-/
module

public import proofs.«01_k».proof.Proof.PoolRun
public import proofs.«01_k».proof.Proof.Gen.KernelPoolIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen
open Cert.ReferencePoolIdeal.Value (lane sums sums_read prefix_sub)

open Cert.ReferencePoolIdeal.Value (normed state)

/-- The block indices of the windows. -/
theorem idx : ∀ t : Fin cfg0.N, win0_0.index t = ![(grid0.coords t 0).val, (grid0.coords t 1).val, 0] ∧ win0_1.index t = ![(grid0.coords t 0).val, 0, 0]
    ∧ win0_2.index t = ![0, 0] ∧ win0_3.index t = ![0, 0, 0] ∧ win0_4.index t = ![0, 0] ∧ win0_5.index t = ![0, 0] ∧ win0_6.index t = ![0, 0] ∧ win0_7.index t = ![0, 0] ∧ win0_8.index t = ![0, 0]
    ∧ win0_9.index t = ![(grid0.coords t 0).val, (grid0.coords t 1).val, 0] ∧ win0_10.index t = ![(grid0.coords t 0).val, 0, 0] :=
  (by decide +kernel : ∀ t : Fin grid0.N, _)

/-- The sequence and the tile of a grid point. -/
theorem coords_eq : ∀ t : Fin cfg0.N, (grid0.coords t 0).val = t.val / 8 ∧ (grid0.coords t 1).val = t.val % 8 :=
  (by decide +kernel : ∀ t : Fin grid0.N, _)

variable (m : (ℓ : Loc nD τ sig) → Buf (Elt Ideal) ℓ) (c : Dev nD) (t : Fin cfg0.N)

/-- The first history. -/
theorem V_p : V m c main_v0 = (broadcastInDim S16x16x1024 ![] bcast_S_S16x16x1024 (constant S_ .f32 0x00000000#32) : FVec Ideal S16x16x1024 .f32) := by
  unfold V V0
  simp only [List.flatten_cons, List.flatten_nil, List.append_nil]
  after_results
  try rfl

/-- The mixer's gains as a row. -/
theorem V_gm : V m c main_v1 = (shapeCast S1x1024 (m ((c : Thread nD τ).loc main_arg1) : FVec Ideal S1024 .f32) shapeCasts_S1024_S1x1024 : FVec Ideal S1x1024 .f32) := by
  unfold V V0
  simp only [List.flatten_cons, List.flatten_nil, List.append_nil]
  after_results
  rfl

/-- The mixer's scale as a row. -/
theorem V_s : V m c main_v3 = (shapeCast S1x1024 (m ((c : Thread nD τ).loc main_arg3) : FVec Ideal S1024 .f32) shapeCasts_S1024_S1x1024 : FVec Ideal S1x1024 .f32) := by
  unfold V V0
  simp only [List.flatten_cons, List.flatten_nil, List.append_nil]
  after_results
  rfl

/-- The feed-forward's gains as a row. -/
theorem V_g : V m c main_v4 = (shapeCast S1x1024 (m ((c : Thread nD τ).loc main_arg4) : FVec Ideal S1024 .f32) shapeCasts_S1024_S1x1024 : FVec Ideal S1x1024 .f32) := by
  unfold V V0
  simp only [List.flatten_cons, List.flatten_nil, List.append_nil]
  after_results
  rfl

/-- A tile of the stream is the array's. -/
theorem read_x (hb : (grid0.coords t 0).val < 16) (hj : (grid0.coords t 1).val < 8) (r : Fin 512) (l : Fin 1024) : k0_pay2 (iblk m c 0 t) (ix2 r l)
    = (m ((c : Thread nD τ).loc main_arg0) : S16x4096x1024.Idx → EReal) (ix3 ⟨(grid0.coords t 0).val, hb⟩ ⟨512 * (grid0.coords t 1).val + r, by omega⟩ l) := by
  pointwise [k0_pay2]
  blk_point [iblk, V, idx t]

/-- The first tile's history is zero. -/
theorem read_p (r : Fin 16) (l : Fin 1024) : k0_pay3 (iblk m c 1 t) (ix2 r l) = (0 : EReal) := by
  pointwise [k0_pay3]
  blk_simp [iblk]
  rw [V_p]
  pointwise

/-- The mixer's gains are the array's. -/
theorem read_gm (l : Fin 1024) : (iblk m c 2 t : S1x1024.Idx → EReal) (ix2 0 l) = (m ((c : Thread nD τ).loc main_arg1) : S1024.Idx → EReal) (ix1 l) := by
  blk_simp [iblk]
  rw [V_gm]
  pointwise
  blk_point [idx t]

/-- The mixer's weight is the array's. -/
theorem read_w (a : Fin 4) (r l : Fin 256) : (iblk m c 3 t : S4x256x256.Idx → EReal) (ix3 a r l) = (m ((c : Thread nD τ).loc main_arg2) : S4x256x256.Idx → EReal) (ix3 a r l) := by
  blk_point [iblk, V, idx t]

/-- The mixer's scale is the array's. -/
theorem read_s (l : Fin 1024) : (iblk m c 4 t : S1x1024.Idx → EReal) (ix2 0 l) = (m ((c : Thread nD τ).loc main_arg3) : S1024.Idx → EReal) (ix1 l) := by
  blk_simp [iblk]
  rw [V_s]
  pointwise
  blk_point [idx t]

/-- The feed-forward's gains are the array's. -/
theorem read_g (l : Fin 1024) : (iblk m c 5 t : S1x1024.Idx → EReal) (ix2 0 l) = (m ((c : Thread nD τ).loc main_arg4) : S1024.Idx → EReal) (ix1 l) := by
  blk_simp [iblk]
  rw [V_g]
  pointwise
  blk_point [idx t]

/-- The gate's weight is the array's. -/
theorem read_wg (r : Fin 1024) (l : Fin 2816) : (iblk m c 6 t : S1024x2816.Idx → EReal) (ix2 r l) = (m ((c : Thread nD τ).loc main_arg5) : S1024x2816.Idx → EReal) (ix2 r l) := by
  blk_point [iblk, V, idx t]

/-- The up projection's weight is the array's. -/
theorem read_wu (r : Fin 1024) (l : Fin 2816) : (iblk m c 7 t : S1024x2816.Idx → EReal) (ix2 r l) = (m ((c : Thread nD τ).loc main_arg6) : S1024x2816.Idx → EReal) (ix2 r l) := by
  blk_point [iblk, V, idx t]

/-- The down projection's weight is the array's. -/
theorem read_wd (r : Fin 2816) (l : Fin 1024) : (iblk m c 8 t : S2816x1024.Idx → EReal) (ix2 r l) = (m ((c : Thread nD τ).loc main_arg7) : S2816x1024.Idx → EReal) (ix2 r l) := by
  blk_point [iblk, V, idx t]

/-- A normalized tile is the normalized array's. -/
theorem tile_h {x : Vec Ideal S1x512x1024 .f32} {g : Vec Ideal S1x1024 .f32} {b : Fin 16} {ρ : Fin 512 → Fin 4096} {X G} (hx : ∀ r l, k0_pay2 x (ix2 r l) = X (ix3 b (ρ r) l))
    (hg : ∀ l, g (ix2 0 l) = G (ix1 l)) (r : Fin 512) (l : Fin 1024) : k0_pay5 x g (ix2 r l) = normed X G (ix3 b (ρ r) l) := by
  have hx' : ∀ r l, x (ix3 0 r l) = X (ix3 b (ρ r) l) := fun r l => by
    rw [← hx]
    pointwise [k0_pay2]
  pointwise [k0_pay5, k0_pay2, normed, Cert.ReferenceOutIdeal.Value.normed]
  simp only [hx', hg, zero_add]

/-- The normalized stream of the arguments. -/
abbrev strm : FVec Ideal S16x4096x1024 .f32 := normed (m ((c : Thread nD τ).loc main_arg0)) (m ((c : Thread nD τ).loc main_arg1))

/-- A tile's own rows kept are the stream's. -/
theorem own (n : ℕ) (hn : n < cfg0.N) (r : Fin 512) (l : Fin 1024) :
    k0_pay5 (iblk m c 0 ⟨n, hn⟩) (iblk m c 2 ⟨n, hn⟩) (ix2 r l) = lane (strm m c) ⟨n / 8, by have : cfg0.N = 128 := rfl; omega⟩ l (512 * (n % 8) + 15 + r.val) := by
  have hN : cfg0.N = 128 := rfl
  obtain ⟨c0, c1⟩ : (grid0.coords ⟨n, hn⟩ 0).val = n / 8 ∧ (grid0.coords ⟨n, hn⟩ 1).val = n % 8 := coords_eq ⟨n, hn⟩
  have hb : (grid0.coords ⟨n, hn⟩ 0).val < 16 := by rw [c0]; omega
  have hj : (grid0.coords ⟨n, hn⟩ 1).val < 8 := by rw [c1]; omega
  refine (tile_h (b := ⟨(grid0.coords ⟨n, hn⟩ 0).val, hb⟩) (ρ := fun r => ⟨512 * (grid0.coords ⟨n, hn⟩ 1).val + r, by omega⟩) (read_x m c ⟨n, hn⟩ hb hj) (read_gm m c ⟨n, hn⟩) r l).trans ?_
  unfold lane
  rw [dif_pos (by omega)]
  refine congrArg (strm m c) (congrArg₂ (fun a k => ix3 a k l) (Fin.ext c0) (Fin.ext ?_))
  show 512 * (grid0.coords ⟨n, hn⟩ 1).val + r.val = 512 * (n % 8) + 15 + r.val - 15
  rw [c1]
  omega

/-- The last rows kept of a tile, read at an index. -/
theorem last_read (e : Vec Ideal S528x1024 .f32) (r : Fin 16) (l : Fin 1024) :
    View.ld e (Rect.unit (s := S528x1024) ![512, 0] ![16, 1024] inb_S528x1024_S16x1024_512_0) (ix2 r l) = e (ix2 ⟨512 + r, by omega⟩ l) := by
  refine congrArg e (funext fun d => Fin.ext ?_)
  fin_cases d
  · exact congrArg (512 + ·) (one_mul r.val)
  · exact (congrArg (0 + ·) (one_mul l.val)).trans (zero_add _)

/-- The rows kept at a grid point are the stream's, from sixteen before the tile on, zeros before the first. -/
theorem kept (n : ℕ) (hn : n < cfg0.N) (e : Fin 528) (l : Fin 1024) :
    (outsAt0 m c n hn).2.2 (ix2 e l) = lane (strm m c) ⟨n / 8, by have : cfg0.N = 128 := rfl; omega⟩ l (512 * (n % 8) + e.val - 1) := by
  have hN : cfg0.N = 128 := rfl
  induction n using Nat.strong_induction_on generalizing e with
  | _ n ih =>
    have he := e.isLt
    have far : ∀ h16 : ¬ e.val < 16, k0_pay5 (iblk m c 0 ⟨n, hn⟩) (iblk m c 2 ⟨n, hn⟩) (ix2 ⟨e.val - 16, by omega⟩ l) = lane (strm m c) ⟨n / 8, by omega⟩ l (512 * (n % 8) + e.val - 1) := fun h16 => by
      rw [own]
      refine congrArg _ ?_
      show 512 * (n % 8) + 15 + (e.val - 16) = _
      omega
    by_cases h0 : n % 8 = 0
    · rw [ext_A m c ⟨n, hn⟩ h0 (show ¬ 1 ≤ n % 8 by omega), ext_read]
      by_cases h16 : e.val < 16
      · rw [dif_pos h16, read_p]
        unfold lane
        rw [dif_neg (by omega)]
      · rw [dif_neg h16, far h16]
    · rw [ext_B m c ⟨n, hn⟩ h0 (show 1 ≤ n % 8 by omega), ext_read]
      by_cases h16 : e.val < 16
      · rw [dif_pos h16]
        refine Eq.trans (b := (outsAt0 m c (n - 1) (by omega)).2.2 (ix2 ⟨512 + e.val, by omega⟩ l)) ?_ ((ih (n - 1) (by omega) (by omega) ⟨512 + e.val, by omega⟩).trans ?_)
        · pointwise [k0_pay4]
        · refine congrArg₂ (fun b i => lane (strm m c) b l i) (Fin.ext ?_) ?_
          · show (n - 1) / 8 = n / 8
            omega
          · show 512 * ((n - 1) % 8) + (512 + e.val) - 1 = 512 * (n % 8) + e.val - 1
            omega
      · rw [dif_neg h16, far h16]

end Cert.KernelPoolIdeal.Value

end
-- ==== Proof.PoolValue.lean ====
/-
  The layer's first call, pooling mixer and feed-forward: the arrays the kernel leaves are the reference's terms of the
  arguments, when the mixer's gains are finite.
-/
module

public import proofs.«01_k».proof.Proof.PoolEnd
public import proofs.«01_k».proof.Proof.Gen.KernelPoolIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen
open Cert.ReferencePoolIdeal.Value (lane sums sums_read prefix_sub)

open Cert.ReferencePoolIdeal.Value (normed state)

section Steps

variable {b : Fin 16} {j : Fin 8} {h : FVec Ideal S16x4096x1024 .f32} {e : Vec Ideal S528x1024 .f32}

/-- The rows a number of tokens back are the stream's. -/
theorem row_tie (he : ∀ a l, e (ix2 a l) = lane h b l (512 * j.val + a.val - 1)) (c : Fin 4) (k : ℕ) (hk : k ≤ 15) (r : Fin 512) (l : Fin 256) :
    row e c k (ix2 r l) = lane h b ⟨256 * c.val + l, by omega⟩ (15 + (512 * j.val + r.val) - k) := by
  have hc := c.isLt
  refine (row_read e (16 - k) (256 * c.val) (by omega) (by omega) _ r l).trans ((he _ _).trans (congrArg _ ?_))
  show 512 * j.val + (16 - k + r.val) - 1 = _
  omega

/-- One group of lanes mixed, tile against array. -/
theorem grouped_tie (hh : ∀ l i, ∃ a : ℝ, lane h b l i = (a : EReal)) (he : ∀ a l, e (ix2 a l) = lane h b l (512 * j.val + a.val - 1)) (n : ℕ) (hn : 1 ≤ n) (hn' : n ≤ 16)
    {i : grid0.Coords} (hi : (i 1).val = j.val) {w : Vec Ideal S4x256x256 .bf16} (c : Fin 4) {A Z H W}
    (hA : ∀ (s : Fin 4096) (l : Fin 256), A (ix3 b s l) = sums h (ix3 b ⟨16 + s.val, by omega⟩ ⟨256 * c.val + l, by omega⟩))
    (hZ : ∀ (s : Fin 4096) (l : Fin 256), Z (ix3 b s l) = sums h (ix3 b ⟨16 - n + s.val, by omega⟩ ⟨256 * c.val + l, by omega⟩))
    (hH : ∀ (s : Fin 4096) (l : Fin 256), H (ix3 b s l) = h (ix3 b s ⟨256 * c.val + l, by omega⟩))
    (hW : ∀ r l, w (ix3 c r l) = W (ix3 0 r l)) (r : Fin 512) (l : Fin 256) :
    grouped n i e w c (ix2 r l) = Cert.ReferencePoolIdeal.Value.group (BitVec.ofNat 32 n) A Z H W (ix3 b ⟨512 * j.val + r, by omega⟩ l) := by
  have hc := c.isLt
  refine group_tie hi (fun r l => ?_) (fun r l => ?_) (fun r l => ?_) r l
  · rw [hA, hZ, window_tie _ (hh _) _ n (by omega) hn', total_read, Nat.sub_add_cancel hn]
    exact Finset.sum_congr rfl fun k hk => row_tie he c k (by have := Finset.mem_range.1 hk; omega) r l
  · rw [row_tie he c 0 (by omega), hH]
    unfold lane
    rw [dif_pos (by omega)]
    refine congrArg h (congrArg (fun a => ix3 b a _) (Fin.ext ?_))
    show 15 + (512 * j.val + r.val) - 0 - 15 = 512 * j.val + r.val
    omega
  · rw [← hW]
    refine congrArg w (funext fun d => Fin.ext ?_)
    fin_cases d
    · rfl
    · exact (congrArg (0 + ·) (one_mul r.val)).trans (zero_add _)
    · exact (congrArg (0 + ·) (one_mul l.val)).trans (zero_add _)

/-- The stream after the mixer, tile against array. -/
theorem mixed_tie {X G P S} (hh : ∀ l i, ∃ a : ℝ, lane (normed X G) b l i = (a : EReal)) (he : ∀ a l, e (ix2 a l) = lane (normed X G) b l (512 * j.val + a.val - 1))
    {i : grid0.Coords} (hi : (i 1).val = j.val) {x : FVec Ideal S512x1024 .f32} {w : Vec Ideal S4x256x256 .bf16} {s : FVec Ideal S1x1024 .f32}
    (hx : ∀ (r : Fin 512) l, x (ix2 r l) = X (ix3 b ⟨512 * j.val + r, by omega⟩ l)) (hw : ∀ a r l, w (ix3 a r l) = P (ix3 a r l)) (hs : ∀ l, s (ix2 0 l) = S (ix1 l)) (r : Fin 512) (l : Fin 1024) :
    mixed i x e w s (ix2 r l) = Cert.ReferencePoolIdeal.Value.pooled X G P S (ix3 b ⟨512 * j.val + r, by omega⟩ l) := by
  refine congrArg₂ (· + ·) (hx r l) (congrArg₂ (· * ·) ?_ ?_)
  · refine concat_tie (ρ := fun r => ⟨512 * j.val + r, by omega⟩) ?_ ?_ ?_ ?_ _ r l
    · exact grouped_tie hh he 2 (by omega) (by omega) hi 0 (fun s l => by pointwise) (fun s l => by pointwise) (fun s l => by pointwise) (fun r l => by rw [hw]; pointwise)
    · exact grouped_tie hh he 4 (by omega) (by omega) hi 1 (fun s l => by pointwise) (fun s l => by pointwise) (fun s l => by pointwise) (fun r l => by rw [hw]; pointwise)
    · exact grouped_tie hh he 8 (by omega) (by omega) hi 2 (fun s l => by pointwise) (fun s l => by pointwise) (fun s l => by pointwise) (fun r l => by rw [hw]; pointwise)
    · exact grouped_tie hh he 16 (by omega) (by omega) hi 3 (fun s l => by pointwise) (fun s l => by pointwise) (fun s l => by pointwise) (fun r l => by rw [hw]; pointwise)
  · pointwise
    exact hs l

end Steps

variable (m : (ℓ : Loc nD τ sig) → Buf (Elt Ideal) ℓ) (c : Dev nD) (t : Fin cfg0.N)

/-- Where the stream's block lies. -/
theorem place (hb : (grid0.coords t 0).val < 16) (hj : (grid0.coords t 1).val < 8) (r : Fin 512) (l : Fin 1024) : ((win0_9.blk t).view.emb (ix3 0 r l : S1x512x1024.Idx))
    = (ix3 ⟨(grid0.coords t 0).val, hb⟩ ⟨512 * (grid0.coords t 1).val + r, by omega⟩ l : S16x4096x1024.Idx) := by
  blk_ext [idx t]

/-- Where the state's block lies. -/
theorem place_s (hb : (grid0.coords t 0).val < 16) (r : Fin 16) (l : Fin 1024) : ((win0_10.blk t).view.emb (ix3 0 r l : S1x16x1024.Idx))
    = (ix3 ⟨(grid0.coords t 0).val, hb⟩ r l : S16x16x1024.Idx) := by
  blk_ext [idx t]

/-- A leading axis of extent one added. -/
theorem lead (x : FVec Ideal S512x1024 .f32) (r : Fin 512) (l : Fin 1024) : k0_pay1 x (ix3 0 r l) = x (ix2 r l) := by
  pointwise [k0_pay1]

/-- The last rows kept, stored under a leading axis of extent one. -/
theorem lead_s (e : Vec Ideal S528x1024 .f32) (r : Fin 16) (l : Fin 1024) :
    k0_pay6 (View.ld e (Rect.unit (s := S528x1024) ![512, 0] ![16, 1024] inb_S528x1024_S16x1024_512_0)) (ix3 0 r l) = e (ix2 ⟨512 + r, by omega⟩ l) := by
  refine Eq.trans ?_ (last_read e r l)
  pointwise [k0_pay6]

/-- The stream's array after the run is the reference's term. -/
theorem final (hg : ∀ l, ∃ a : ℝ, (m ((c : Thread nD τ).loc main_arg1) : S1024.Idx → EReal) (ix1 l) = (a : EReal)) : (dats m 0 c).arrAt 9 (cfgs 0).N
    = Cert.ReferenceOutIdeal.Value.ffn (Cert.ReferencePoolIdeal.Value.pooled (m ((c : Thread nD τ).loc main_arg0)) (m ((c : Thread nD τ).loc main_arg1)) (m ((c : Thread nD τ).loc main_arg2)) (m ((c : Thread nD τ).loc main_arg3)))
      (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9, (out_eq m c t _ rfl).1]
  obtain ⟨c0, c1⟩ := coords_eq t
  have hb : (grid0.coords t 0).val < 16 := (grid0.coords t 0).isLt
  have hj : (grid0.coords t 1).val < 8 := (grid0.coords t 1).isLt
  obtain ⟨r, l, rfl⟩ : ∃ (r : Fin 512) (l : Fin 1024), y = (ix3 0 r l : S1x512x1024.Idx) := by
    exact ⟨y 1, y 2, by funext d; apply Fin.ext; fin_cases d <;> first | rfl | exact Nat.lt_one_iff.1 (y 0).isLt⟩
  refine (lead _ r l).trans (Eq.trans ?_ (congrArg _ (place t hb hj r l)).symm)
  have he : ∀ a l, (outsAt0 m c t.val t.isLt).2.2 (ix2 a l) = lane (strm m c) ⟨(grid0.coords t 0).val, hb⟩ l (512 * (⟨(grid0.coords t 1).val, hj⟩ : Fin 8).val + a.val - 1) := fun a l => by
    refine (kept m c t.val t.isLt a l).trans (congrArg₂ (fun b i => lane (strm m c) b l i) (Fin.ext c0.symm) ?_)
    show 512 * (t.val % 8) + a.val - 1 = 512 * (grid0.coords t 1).val + a.val - 1
    rw [c1]
  have hr := mixed_tie (fun l i => lane_real hg _ l i) he (i := grid0.coords t) rfl (read_x m c t hb hj) (read_w m c t) (read_s m c t)
  have hn := Cert.KernelOutIdeal.Value.normed_tie (ρ := fun r => ⟨512 * (grid0.coords t 1).val + r, by omega⟩) hr (read_g m c t)
  exact Cert.KernelOutIdeal.Value.down_tie hr (Cert.KernelOutIdeal.Value.gated_tie (Cert.KernelOutIdeal.Value.wide_tie hn (read_wg m c t)) (Cert.KernelOutIdeal.Value.wide_tie hn (read_wu m c t))) (read_wd m c t) r l

/-- The sixteen last rows of the stream after its history. -/
def tail (h : FVec Ideal S16x4096x1024 .f32) : FVec Ideal S16x16x1024 .f32 := fun i => lane h (i 0) (i 2) (4095 + (i 1).val)

/-- The state's array after the run holds the last rows. -/
theorem final_s : (dats m 0 c).arrAt 10 (cfgs 0).N = tail (strm m c) := by
  refine (dats m 0 c).arrAt_eq_of_covers 10 _ (by decide +kernel) fun t ht y => ?_
  have h7 : t.val % 8 = 7 := by
    exact (flush0_10 t).1 ht
  blk_simp
  rw [after0_10, (out_eq m c t _ rfl).2]
  obtain ⟨c0, c1⟩ := coords_eq t
  have hb : (grid0.coords t 0).val < 16 := (grid0.coords t 0).isLt
  obtain ⟨r, l, rfl⟩ : ∃ (r : Fin 16) (l : Fin 1024), y = (ix3 0 r l : S1x16x1024.Idx) := by
    exact ⟨y 1, y 2, by funext d; apply Fin.ext; fin_cases d <;> first | rfl | exact Nat.lt_one_iff.1 (y 0).isLt⟩
  refine (lead_s _ r l).trans (Eq.trans ?_ (congrArg _ (place_s t hb r l)).symm)
  refine (kept m c t.val t.isLt ⟨512 + r, by omega⟩ l).trans (congrArg₂ (fun b i => lane (strm m c) b l i) (Fin.ext c0.symm) ?_)
  show 512 * (t.val % 8) + (512 + r.val) - 1 = 4095 + r.val
  omega

/-- The state returned is the last rows but one. -/
theorem tail_state (h : FVec Ideal S16x4096x1024 .f32) : extractStridedSlice S16x15x1024 ![0, 1, 0] (tail h) slices_S16x16x1024_S16x15x1024_0_1_0 = state h := by
  funext i
  obtain ⟨b, r, l, rfl⟩ : ∃ (b : Fin 16) (r : Fin 15) (l : Fin 1024), i = (ix3 b r l : S16x15x1024.Idx) := by
    exact ⟨i 0, i 1, i 2, by funext d; fin_cases d <;> rfl⟩
  refine Eq.trans (b := lane h b l (4096 + r.val)) ?_ ?_
  · pointwise
    show lane h b l (4095 + (1 + r.val)) = _
    exact congrArg _ (by omega)
  · unfold state
    refine (Cert.ReferencePoolIdeal.Value.led_read h b ⟨4096 + r.val, by omega⟩ l).symm.trans ?_
    pointwise

/-- The kernel runs and leaves the reference's terms. -/
theorem run (hg : ∀ (c : Dev nD) l, ∃ a : ℝ, (m ((c : Thread nD τ).loc main_arg1) : S1024.Idx → EReal) (ix1 l) = (a : EReal)) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8_0) = Cert.ReferenceOutIdeal.Value.ffn (Cert.ReferencePoolIdeal.Value.pooled (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) (m ((c : Thread nD τ).loc main_arg6)) (m ((c : Thread nD τ).loc main_arg7))
      ∧ r.2.mem ((c.tc : Thread nD τ).loc main_v9) = state (strm m c)) :=
  (θ_run defs _ _).mono (fun _ h c => ⟨((h c).1 9).trans (final m c (hg c)), ((h c).2 main_v9 (by decide)).trans (by
    unfold Pipeline.afterTail₀
    simp only [List.flatten_cons, List.flatten_nil, List.append_nil]
    after_results
    exact (congrArg (fun z => extractStridedSlice S16x15x1024 ![0, 1, 0] z slices_S16x16x1024_S16x15x1024_0_1_0)
      ((Pipeline.withArrays_arr (cfgs 0).spec launch0.win.arr_inj c (V0 m c) (fun w => (dats m 0 c).arrAt w (cfgs 0).N) 10).trans (final_s m c))).trans (tail_state _))⟩) (run_main (F := Ideal) m ρ)

end Cert.KernelPoolIdeal.Value

end
-- ==== Proof.lean ====
/-
  The attention kernel of the layer: the three programs run and leave their arguments alone, and the idealized
  kernel is the kernel with its mask constant named. The output projection with the feed-forward network, and the
  projections of queries, keys, values and gates: the three programs of each run and leave their arguments alone, and
  the kernel ends with the reference's results. The pooling call with its feed-forward network: the same, of finite gains of
  the mixer's normalization.
-/
module

public import proofs.«01_k».proof.Defs
public import proofs.«01_k».proof.Proof.FrameKernel
public import proofs.«01_k».proof.Proof.FrameIdeal
public import proofs.«01_k».proof.Proof.Gen.ReferenceIdeal.Run
public import proofs.«01_k».proof.Proof.Gen.KernelOut.Frame
public import proofs.«01_k».proof.Proof.Gen.KernelOutIdeal.Frame
public import proofs.«01_k».proof.Proof.Out
public import proofs.«01_k».proof.Proof.KvqEnd
public import proofs.«01_k».proof.Proof.Gen.KernelKvq.Frame
public import proofs.«01_k».proof.Proof.Gen.KernelKvqIdeal.Frame
public import proofs.«01_k».proof.Proof.Gen.ReferenceKvqIdeal.Run
public import proofs.«01_k».proof.Proof.Gen.KernelPool.Frame
public import proofs.«01_k».proof.Proof.Gen.KernelPoolIdeal.Frame
public import proofs.«01_k».proof.Proof.Gen.ReferencePoolIdeal.Run
public import proofs.«01_k».proof.Proof.Gen.Pre_finite_gain
public import proofs.«01_k».proof.Proof.PoolValue
public import Idealize.ShloMosaic.Adequacy
public import Idealize.ShloMosaic.Init

@[expose] public section

noncomputable section

namespace Cert.Proof

open Idealize.ShloMosaic Idealize.SL.Sem

/-- The reference runs, leaves its arguments alone and ends with every semaphore at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The output projection's reference runs, leaves its arguments alone and ends with every semaphore at zero. -/
theorem frame_reference_out (m : (ℓ : Loc Cert.ReferenceOutIdeal.nD Cert.ReferenceOutIdeal.τ Cert.ReferenceOutIdeal.sig) → Buf (Elt Ideal) ℓ)
    (g : Dev Cert.ReferenceOutIdeal.nD → PrngReg) :
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0) :=
  (θ_run Cert.ReferenceOutIdeal.defs _ _).mono (fun r h => ⟨fun c => (h c).2, Idealize.ShloMosaic.sem_eq_zero_of_no_sems (by decide) r.2⟩)
    (Cert.ReferenceOutIdeal.Value.run (F := Ideal) m g)

/-- The output projection's kernel and its reference end with equal results. -/
theorem algebraic_out : algebraic_KernelOutIdeal_ReferenceOutIdeal (hKernelOutIdeal := Cert.KernelOutIdeal.Gen.facts) (hReferenceOutIdeal := Cert.ReferenceOutIdeal.Gen.facts) := by
  intro m g m' g' _ hagree
  refine ⟨_, (θ_run _ _ _).mono (fun r h c => ⟨h.1 c, h.2 c⟩) (θ_run_and (Cert.KernelOutIdeal.Value.run m g) (Cert.KernelOutIdeal.Gen.unchanged m g)),
    (θ_run _ _ _).mono (fun r h c => ⟨(h c).1.trans ?_, (h c).2⟩) (Cert.ReferenceOutIdeal.Value.run m' g')⟩
  obtain ⟨h0, h1, h2, h3, h4, h5, h6⟩ := hagree c
  rw [Cert.ReferenceOutIdeal.Value.res_eq, h0, h1, h2, h3, h4, h5, h6]

/-- The projections's reference runs, leaves its arguments alone and ends with every semaphore at zero. -/
theorem frame_reference_kvq (m : (ℓ : Loc Cert.ReferenceKvqIdeal.nD Cert.ReferenceKvqIdeal.τ Cert.ReferenceKvqIdeal.sig) → Buf (Elt Ideal) ℓ)
    (g : Dev Cert.ReferenceKvqIdeal.nD → PrngReg) :
    θ_run (Cert.ReferenceKvqIdeal.defs (F := Ideal)) (onTc (τ := Cert.ReferenceKvqIdeal.τ) (Cert.ReferenceKvqIdeal.main (F := Ideal))) ⟨m, fun _ => 0, g⟩ (fun r => (∀ c : Dev Cert.ReferenceKvqIdeal.nD,
      r.2.mem ((c.tc : Thread Cert.ReferenceKvqIdeal.nD Cert.ReferenceKvqIdeal.τ).loc Cert.ReferenceKvqIdeal.main_arg0) = m ((c.tc : Thread Cert.ReferenceKvqIdeal.nD Cert.ReferenceKvqIdeal.τ).loc Cert.ReferenceKvqIdeal.main_arg0)
      ∧ r.2.mem ((c.tc : Thread Cert.ReferenceKvqIdeal.nD Cert.ReferenceKvqIdeal.τ).loc Cert.ReferenceKvqIdeal.main_arg1) = m ((c.tc : Thread Cert.ReferenceKvqIdeal.nD Cert.ReferenceKvqIdeal.τ).loc Cert.ReferenceKvqIdeal.main_arg1)
      ∧ r.2.mem ((c.tc : Thread Cert.ReferenceKvqIdeal.nD Cert.ReferenceKvqIdeal.τ).loc Cert.ReferenceKvqIdeal.main_arg2) = m ((c.tc : Thread Cert.ReferenceKvqIdeal.nD Cert.ReferenceKvqIdeal.τ).loc Cert.ReferenceKvqIdeal.main_arg2)
      ∧ r.2.mem ((c.tc : Thread Cert.ReferenceKvqIdeal.nD Cert.ReferenceKvqIdeal.τ).loc Cert.ReferenceKvqIdeal.main_arg3) = m ((c.tc : Thread Cert.ReferenceKvqIdeal.nD Cert.ReferenceKvqIdeal.τ).loc Cert.ReferenceKvqIdeal.main_arg3)
      ∧ r.2.mem ((c.tc : Thread Cert.ReferenceKvqIdeal.nD Cert.ReferenceKvqIdeal.τ).loc Cert.ReferenceKvqIdeal.main_arg4) = m ((c.tc : Thread Cert.ReferenceKvqIdeal.nD Cert.ReferenceKvqIdeal.τ).loc Cert.ReferenceKvqIdeal.main_arg4)
      ∧ r.2.mem ((c.tc : Thread Cert.ReferenceKvqIdeal.nD Cert.ReferenceKvqIdeal.τ).loc Cert.ReferenceKvqIdeal.main_arg5) = m ((c.tc : Thread Cert.ReferenceKvqIdeal.nD Cert.ReferenceKvqIdeal.τ).loc Cert.ReferenceKvqIdeal.main_arg5)
      ∧ r.2.mem ((c.tc : Thread Cert.ReferenceKvqIdeal.nD Cert.ReferenceKvqIdeal.τ).loc Cert.ReferenceKvqIdeal.main_arg6) = m ((c.tc : Thread Cert.ReferenceKvqIdeal.nD Cert.ReferenceKvqIdeal.τ).loc Cert.ReferenceKvqIdeal.main_arg6)
      ∧ r.2.mem ((c.tc : Thread Cert.ReferenceKvqIdeal.nD Cert.ReferenceKvqIdeal.τ).loc Cert.ReferenceKvqIdeal.main_arg7) = m ((c.tc : Thread Cert.ReferenceKvqIdeal.nD Cert.ReferenceKvqIdeal.τ).loc Cert.ReferenceKvqIdeal.main_arg7)
      ∧ r.2.mem ((c.tc : Thread Cert.ReferenceKvqIdeal.nD Cert.ReferenceKvqIdeal.τ).loc Cert.ReferenceKvqIdeal.main_arg8) = m ((c.tc : Thread Cert.ReferenceKvqIdeal.nD Cert.ReferenceKvqIdeal.τ).loc Cert.ReferenceKvqIdeal.main_arg8)
      ∧ r.2.mem ((c.tc : Thread Cert.ReferenceKvqIdeal.nD Cert.ReferenceKvqIdeal.τ).loc Cert.ReferenceKvqIdeal.main_arg9) = m ((c.tc : Thread Cert.ReferenceKvqIdeal.nD Cert.ReferenceKvqIdeal.τ).loc Cert.ReferenceKvqIdeal.main_arg9))
      ∧ r.2.sem = fun _ => 0) :=
  (θ_run Cert.ReferenceKvqIdeal.defs _ _).mono (fun r h => ⟨fun c => (h c).2.2.2.2.2.2, Idealize.ShloMosaic.sem_eq_zero_of_no_sems (by decide) r.2⟩)
    (Cert.ReferenceKvqIdeal.Value.run (F := Ideal) m g)

/-- The pooling call's reference runs, leaves its arguments alone and ends with every semaphore at zero. -/
theorem frame_reference_pool (m : (ℓ : Loc Cert.ReferencePoolIdeal.nD Cert.ReferencePoolIdeal.τ Cert.ReferencePoolIdeal.sig) → Buf (Elt Ideal) ℓ)
    (g : Dev Cert.ReferencePoolIdeal.nD → PrngReg) :
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3)
      ∧ r.2.mem ((c.tc : Thread Cert.ReferencePoolIdeal.nD Cert.ReferencePoolIdeal.τ).loc Cert.ReferencePoolIdeal.main_arg4) = m ((c.tc : Thread Cert.ReferencePoolIdeal.nD Cert.ReferencePoolIdeal.τ).loc Cert.ReferencePoolIdeal.main_arg4)
      ∧ r.2.mem ((c.tc : Thread Cert.ReferencePoolIdeal.nD Cert.ReferencePoolIdeal.τ).loc Cert.ReferencePoolIdeal.main_arg5) = m ((c.tc : Thread Cert.ReferencePoolIdeal.nD Cert.ReferencePoolIdeal.τ).loc Cert.ReferencePoolIdeal.main_arg5)
      ∧ r.2.mem ((c.tc : Thread Cert.ReferencePoolIdeal.nD Cert.ReferencePoolIdeal.τ).loc Cert.ReferencePoolIdeal.main_arg6) = m ((c.tc : Thread Cert.ReferencePoolIdeal.nD Cert.ReferencePoolIdeal.τ).loc Cert.ReferencePoolIdeal.main_arg6)
      ∧ r.2.mem ((c.tc : Thread Cert.ReferencePoolIdeal.nD Cert.ReferencePoolIdeal.τ).loc Cert.ReferencePoolIdeal.main_arg7) = m ((c.tc : Thread Cert.ReferencePoolIdeal.nD Cert.ReferencePoolIdeal.τ).loc Cert.ReferencePoolIdeal.main_arg7))
      ∧ r.2.sem = fun _ => 0) :=
  (θ_run Cert.ReferencePoolIdeal.defs _ _).mono (fun r h => ⟨fun c => (h c).2.2, Idealize.ShloMosaic.sem_eq_zero_of_no_sems (by decide) r.2⟩)
    (Cert.ReferencePoolIdeal.Value.run (F := Ideal) m g)

/-- The projections' kernel and its reference end with equal results. -/
theorem algebraic_kvq : algebraic_KernelKvqIdeal_ReferenceKvqIdeal (hKernelKvqIdeal := Cert.KernelKvqIdeal.Gen.facts) (hReferenceKvqIdeal := Cert.ReferenceKvqIdeal.Gen.facts) := by
  intro m g m' g' _ hagree
  refine ⟨_, _, _, _, _, _, (θ_run _ _ _).mono (fun r h c => ⟨(h.1 c).1, (h.1 c).2.1, (h.1 c).2.2.1, (h.1 c).2.2.2.1, (h.1 c).2.2.2.2.1, (h.1 c).2.2.2.2.2, h.2 c⟩)
      (θ_run_and (Cert.KernelKvqIdeal.Value.run m g) (Cert.KernelKvqIdeal.Gen.unchanged m g)),
    (θ_run _ _ _).mono (fun r h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.ReferenceKvqIdeal.Value.run m' g')⟩
  all_goals
    obtain ⟨h0, h1, h2, h3, h4, h5, h6, h7, h8, h9⟩ := hagree c
    rw [← h0]
  · rw [← h1, ← h3, ← h8]; rfl
  · rw [← h1, ← h4]; exact Cert.ReferenceKvqIdeal.Value.flat_cut _
  · rw [← h1, ← h5, ← h6]; rfl
  · rw [← h2, ← h7, ← h9]; rfl
  · rw [← h1, ← h3, ← h8]; rfl
  · rw [← h1, ← h4]; exact congrArg Cert.ReferenceKvqIdeal.Value.turned (Cert.ReferenceKvqIdeal.Value.flat_cut _)

/-- Where every gain is less than infinity in absolute value, every gain is a real number. -/
theorem gain_real (a0 : FVec Ideal Cert.Pre_finite_gain.S16x4096x1024 .f32) (a1 : FVec Ideal Cert.Pre_finite_gain.S1024 .f32)
    (a2 : FVec Ideal Cert.Pre_finite_gain.S4x256x256 .f32) (a3 a4 : FVec Ideal Cert.Pre_finite_gain.S1024 .f32)
    (a5 a6 : FVec Ideal Cert.Pre_finite_gain.S1024x2816 .f32) (a7 : FVec Ideal Cert.Pre_finite_gain.S2816x1024 .f32)
    (h : Cert.Pre_finite_gain.fn (F := Ideal) a0 a1 a2 a3 a4 a5 a6 a7 = fun _ => 1#1)
    (i : Cert.Pre_finite_gain.S1024.Idx) : ∃ a : ℝ, (a1 i : EReal) = (a : EReal) := by
  have pre := congrFun h i
  have lt : max (a1 i : EReal) (-(a1 i : EReal)) < Ideal.ofBits .f32 0x7F800000#32 := (Ideal.cmp_olt_eq_one _ _).1 pre
  rw [show Ideal.ofBits .f32 0x7F800000#32 = ⊤ from by simp [Ideal.ofBits, Ideal.ieee]] at lt
  have top : (a1 i : EReal) ≠ ⊤ := fun e => by simp [e] at lt
  have bot : (a1 i : EReal) ≠ ⊥ := fun e => by simp [e] at lt
  exact ⟨(a1 i : EReal).toReal, (EReal.coe_toReal top bot).symm⟩

/-- The pooling call's kernel and its reference end with equal results, where the mixer's gains are finite. -/
theorem algebraic_pool : algebraic_KernelPoolIdeal_ReferencePoolIdeal_pre_finite_gain (hKernelPoolIdeal := Cert.KernelPoolIdeal.Gen.facts)
    (hReferencePoolIdeal := Cert.ReferencePoolIdeal.Gen.facts) (hPre_finite_gain := Cert.Pre_finite_gain.Gen.facts) := by
  intro m g m' g' hpre hagree
  refine ⟨_, _, (θ_run _ _ _).mono (fun r h c => ⟨(h.1 c).1, (h.1 c).2, h.2 c⟩)
      (θ_run_and (Cert.KernelPoolIdeal.Value.run m (fun c l => gain_real _ _ _ _ _ _ _ _ (hpre c) _) g) (Cert.KernelPoolIdeal.Gen.unchanged m g)),
    (θ_run _ _ _).mono (fun r h c => ⟨(h.1 c).1.trans ?_, (h.1 c).2.trans ?_, (h.2 c).2.2⟩)
      (θ_run_and (Cert.ReferencePoolIdeal.Value.run_terms m' g') (Cert.ReferencePoolIdeal.Value.run m' g'))⟩
  all_goals obtain ⟨h0, h1, h2, h3, h4, h5, h6, h7⟩ := hagree c
  · rw [h0, h1, h2, h3, h4, h5, h6, h7]
  · rw [h0, h1]

/-- The claims. -/
theorem claim : Cert.Claim :=
  ⟨Cert.Kernel.Gen.facts, Cert.KernelIdeal.Gen.facts, Cert.ReferenceIdeal.Gen.facts,
    Cert.KernelOut.Gen.facts, Cert.KernelOutIdeal.Gen.facts, Cert.ReferenceOutIdeal.Gen.facts,
    Cert.KernelKvq.Gen.facts, Cert.KernelKvqIdeal.Gen.facts, Cert.ReferenceKvqIdeal.Gen.facts,
    Cert.KernelPool.Gen.facts, Cert.KernelPoolIdeal.Gen.facts, Cert.ReferencePoolIdeal.Gen.facts,
    Cert.Pre_finite_gain.Gen.facts,
    fun m g _ => Cert.Kernel.Fox.frame_run m g,
    fun m g _ => Cert.KernelIdeal.Fox.frame_run m g,
    fun m g _ => frame_reference m g,
    fun m g _ => Cert.KernelOut.Gen.frame m g,
    fun m g _ => Cert.KernelOutIdeal.Gen.frame m g,
    fun m g _ => frame_reference_out m g,
    fun m g _ => Cert.KernelKvq.Gen.frame m g,
    fun m g _ => Cert.KernelKvqIdeal.Gen.frame m g,
    fun m g _ => frame_reference_kvq m g,
    fun m g _ => Cert.KernelPool.Gen.frame m g,
    fun m g _ => Cert.KernelPoolIdeal.Gen.frame m g,
    fun m g _ => Cert.KernelPoolIdeal.Gen.frame m g,
    fun m g _ => frame_reference_pool m g,
    fun m g _ => frame_reference_pool m g,
    IdealRules.named_const.statement Cert.KernelIdeal.κ "mask" .f32 0xF149F2CA#32 ⊥ rfl,
    trivial,
    algebraic_out,
    IdealRules.named_const.statement Cert.KernelKvqIdeal.κ "scale" .f32 0x3E38AA3B#32 _ rfl,
    algebraic_kvq,
    trivial,
    algebraic_pool⟩

end Cert.Proof

end
